-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x512 : Shape := ⟨2, ![512, 512]⟩
abbrev S4 : Shape := ⟨1, ![4]⟩
abbrev S_ : Shape := ⟨0, ![]⟩
abbrev S1 : Shape := ⟨1, ![1]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v11 : BitVec 32 := Scalar.muli v2 c512_i32
  let v12 : Index := Scalar.indexCast v11
  let c0 : Index := 0#32
  ![v12.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v19 : BitVec 32 := Scalar.muli v2 c4_i32_8
  let v20 : BitVec 32 := Scalar.addi c0_i32 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v21 : BitVec 32 := Scalar.muli v5 c2_i32_9
  let v22 : BitVec 32 := Scalar.addi v20 v21
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_10 : BitVec 32 := 1#32
  let v23 : BitVec 32 := Scalar.muli v9 c1_i32_10
  let v24 : BitVec 32 := Scalar.addi v22 v23
  v24.toNat
def k0_dev2 (d0 : Dev nD) : Nat :=
  let c0_i32_13 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_12 : BitVec 32 := 4#32
  let v25 : BitVec 32 := Scalar.muli v10 c4_i32_12
  let v26 : BitVec 32 := Scalar.addi c0_i32_13 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v27 : BitVec 32 := Scalar.muli v5 c2_i32_14
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v29 : BitVec 32 := Scalar.muli v8 c1_i32_15
  let v30 : BitVec 32 := Scalar.addi v28 v29
  v30.toNat
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_22 : BitVec 32 := 1#32
  let v35 : BitVec 32 := Scalar.muli v9 c1_i32_22
  let v36 : BitVec 32 := Scalar.addi v34 v35
  v36.toNat
def k0_dev4 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v43 : BitVec 32 := Scalar.muli v2 c4_i32_29
  let v44 : BitVec 32 := Scalar.addi c0_i32_30 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v45 : BitVec 32 := Scalar.muli v5 c2_i32_31
  let v46 : BitVec 32 := Scalar.addi v44 v45
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_32 : BitVec 32 := 1#32
  let v47 : BitVec 32 := Scalar.muli v9 c1_i32_32
  let v48 : BitVec 32 := Scalar.addi v46 v47
  v48.toNat
def k0_dev5 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v55 : BitVec 32 := Scalar.muli v2 c4_i32_38
  let v56 : BitVec 32 := Scalar.addi c0_i32_39 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v57 : BitVec 32 := Scalar.muli v5 c2_i32_40
  let v58 : BitVec 32 := Scalar.addi v56 v57
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_41 : BitVec 32 := 1#32
  let v59 : BitVec 32 := Scalar.muli v9 c1_i32_41
  let v60 : BitVec 32 := Scalar.addi v58 v59
  v60.toNat
def k0_dev6 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v67 : BitVec 32 := Scalar.muli v2 c4_i32_46
  let v68 : BitVec 32 := Scalar.addi c0_i32_47 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v69 : BitVec 32 := Scalar.muli v5 c2_i32_48
  let v70 : BitVec 32 := Scalar.addi v68 v69
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_49 : BitVec 32 := 1#32
  let v71 : BitVec 32 := Scalar.muli v9 c1_i32_49
  let v72 : BitVec 32 := Scalar.addi v70 v71
  v72.toNat
def k0_off2 (d0 : Dev nD) (c0_i32_63 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v11 : BitVec 32 := Scalar.muli v2 c512_i32
  let v89 : BitVec 32 := Scalar.addi v11 c0_i32_63
  let v93 : Index := Scalar.indexCast v89
  let c0_68 : Index := 0#32
  ![v93.toNat, 0]
def k0_off3 (d0 : Dev nD) (c0_i32_63 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v11 : BitVec 32 := Scalar.muli v2 c512_i32
  let v89 : BitVec 32 := Scalar.addi v11 c0_i32_63
  let c0_i32_75 : BitVec 32 := 0#32
  ![v89.toNat, 0]
def k0_dev7 (d0 : Dev nD) : Nat :=
  let c0_i32_72 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_71 : BitVec 32 := 4#32
  let v95 : BitVec 32 := Scalar.muli v10 c4_i32_71
  let v96 : BitVec 32 := Scalar.addi c0_i32_72 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v97 : BitVec 32 := Scalar.muli v5 c2_i32_73
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v99 : BitVec 32 := Scalar.muli v8 c1_i32_74
  let v100 : BitVec 32 := Scalar.addi v98 v99
  v100.toNat
def k0_dev8 (d0 : Dev nD) : Nat :=
  let c0_i32_95 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_94 : BitVec 32 := 4#32
  let v123 : BitVec 32 := Scalar.muli v10 c4_i32_94
  let v124 : BitVec 32 := Scalar.addi c0_i32_95 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v125 : BitVec 32 := Scalar.muli v5 c2_i32_96
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v127 : BitVec 32 := Scalar.muli v8 c1_i32_97
  let v128 : BitVec 32 := Scalar.addi v126 v127
  v128.toNat
def k0_dev9 (d0 : Dev nD) : Nat :=
  let c0_i32_118 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_117 : BitVec 32 := 4#32
  let v151 : BitVec 32 := Scalar.muli v10 c4_i32_117
  let v152 : BitVec 32 := Scalar.addi c0_i32_118 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v153 : BitVec 32 := Scalar.muli v5 c2_i32_119
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v155 : BitVec 32 := Scalar.muli v8 c1_i32_120
  let v156 : BitVec 32 := Scalar.addi v154 v155
  v156.toNat
def k0_dev10 (d0 : Dev nD) : Nat :=
  let c0_i32_141 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_140 : BitVec 32 := 4#32
  let v179 : BitVec 32 := Scalar.muli v10 c4_i32_140
  let v180 : BitVec 32 := Scalar.addi c0_i32_141 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v181 : BitVec 32 := Scalar.muli v5 c2_i32_142
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_143 : BitVec 32 := 1#32
  let v183 : BitVec 32 := Scalar.muli v8 c1_i32_143
  let v184 : BitVec 32 := Scalar.addi v182 v183
  v184.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2x1024x512, .bf16⟩
  | .hbm, ⟨2, _⟩ => ⟨S2x1024x512, .f32⟩
  | .hbm, ⟨3, _⟩ => ⟨S_, .f32⟩
  | .hbm, ⟨4, _⟩ => ⟨S1024x512, .f32⟩
  | .hbm, ⟨5, _⟩ => ⟨S1024x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdealViews.lean ====
/-
The parts of the buffers that the kernel hands about, and what they hold.

The eight devices form a 2 × 2 × 2 mesh; device `c` sits at `(c / 4, c / 2 % 2, c % 2)`. Every device exchanges data
with two others: its PARTNER ALONG Z (the other half of the summed axis) and its PARTNER ALONG X (the same block of the
operand, but answerable for the other 512 rows of the result). A device works on the 512 rows of its half in four
chunks of 128 rows. This module names the partners, the chunks as views of the buffers, says that the chunks tile the
buffers, and says what the two landings and the store of a sum leave behind.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The partners -/

/-- The partner along z: the device that differs in the last mesh coordinate. -/
def zp (c : Dev nD) : Dev nD :=
  ⟨(4 * (c.val / 4) + 2 * ((c.val / 2) % 2) + 1) - c.val % 2, by have h : c.val < 8 := c.isLt; show _ < 8; omega⟩

/-- The partner along x: the device that differs in the first mesh coordinate. -/
def xp (c : Dev nD) : Dev nD :=
  ⟨(2 * ((c.val / 2) % 2) + c.val % 2 + 4) - 4 * (c.val / 4), by have h : c.val < 8 := c.isLt; show _ < 8; omega⟩

/-- The half of the result's rows that device `c` computes: its first mesh coordinate. -/
def half (c : Dev nD) : Fin 2 := ⟨c.val / 4, by have h : c.val < 8 := c.isLt; omega⟩

/-- The z partner's z partner is the device itself. -/
theorem zp_zp (c : Dev nD) : zp (zp c) = c := by revert c; decide
/-- So is the x partner's x partner. -/
theorem xp_xp (c : Dev nD) : xp (xp c) = c := by revert c; decide
/-- z partners compute the same half, -/
theorem half_zp (c : Dev nD) : half (zp c) = half c := by revert c; decide
/-- x partners the two different ones. -/
theorem half_xp (c : Dev nD) : half (xp c) = 1 - half c := by revert c; decide
/-- In particular not the same. -/
theorem half_ne (c : Dev nD) : half c ≠ half (xp c) := by revert c; decide
/-- The two steps commute. -/
theorem xp_zp (c : Dev nD) : xp (zp c) = zp (xp c) := by revert c; decide

/-- Going to the partner along z, as a permutation of the devices. -/
def zSwap : Dev nD ≃ Dev nD := ⟨zp, zp, zp_zp, zp_zp⟩
/-- Going to the partner along x, as a permutation of the devices. -/
def xSwap : Dev nD ≃ Dev nD := ⟨xp, xp, xp_xp, xp_xp⟩

/-! ## The chunks -/

/-- Chunk `k` of a buffer of 512 rows: rows `128 k` to `128 k + 127`. -/
abbrev zRect (k : Fin 4) : Rect S512x512 :=
  Rect.unit (s := S512x512) ![128 * k.val, 0] S128x512.size
    (Rect.inb₂ (by have := k.isLt; show 128 * k.val + 128 ≤ 512; omega) (by show 0 + 512 ≤ 512; omega))

/-- Chunk `k` of half `h` of a buffer of 1024 rows: rows `512 h + 128 k` to `512 h + 128 k + 127`. -/
abbrev xRect (h : Fin 2) (k : Fin 4) : Rect S1024x512 :=
  Rect.unit (s := S1024x512) ![512 * h.val + 128 * k.val, 0] S128x512.size
    (Rect.inb₂ (by have := k.isLt; have := h.isLt; show 512 * h.val + 128 * k.val + 128 ≤ 1024; omega) (by show 0 + 512 ≤ 512; omega))

/-- The device's block of the operand, the result, the buffer of rows to send along z, the buffer they land in. -/
abbrev inM : Memref sig .tc .vmem S1024x512 .bf16 := Memref.whole cc0_stg0_0
/-- The result's buffer. -/
abbrev outM : Memref sig .tc .vmem S1024x512 .bf16 := Memref.whole cc0_stg1_0
/-- The buffer of the rows to send along z. -/
abbrev sM : Memref sig .tc .vmem S512x512 .bf16 := Memref.whole cc0_scratch0
/-- The buffer that the z partner's rows land in. -/
abbrev rM : Memref sig .tc .vmem S512x512 .bf16 := Memref.whole cc0_scratch1

/-- Chunk `k` of the send buffer, -/
abbrev sCh (k : Fin 4) : Memref sig .tc .vmem S128x512 .bf16 := sM.slice (zRect k) (fun _ => rfl)
/-- of the receive buffer, -/
abbrev rCh (k : Fin 4) : Memref sig .tc .vmem S128x512 .bf16 := rM.slice (zRect k) (fun _ => rfl)
/-- of half `h` of the result. -/
abbrev oCh (h : Fin 2) (k : Fin 4) : Memref sig .tc .vmem S128x512 .bf16 := outM.slice (xRect h k) (fun _ => rfl)

/-- The elements of a send chunk are those of its rows; -/
theorem sCh_set (k : Fin 4) : (sCh k).view.set = (zRect k).set := View.set_slice_whole _ _
/-- so are a receive chunk's, -/
theorem rCh_set (k : Fin 4) : (rCh k).view.set = (zRect k).set := View.set_slice_whole _ _
/-- and a result chunk's. -/
theorem oCh_set (h : Fin 2) (k : Fin 4) : (oCh h k).view.set = (xRect h k).set := View.set_slice_whole _ _

/-- Different chunks of 512 rows share no element, -/
theorem zRect_disjoint (k k' : Fin 4) (h : k ≠ k') : Disjoint (zRect k).set (zRect k').set := by
  refine Rect.unit_disjoint (0 : Fin 2) ?_
  have hk : k.val ≠ k'.val := fun e => h (Fin.ext e)
  show 128 * k.val + 128 ≤ 128 * k'.val ∨ 128 * k'.val + 128 ≤ 128 * k.val
  omega

/-- and the four are all of them. -/
theorem zRect_cover : Finset.univ.biUnion (fun k => (zRect k).set) = Finset.univ := by
  ext i
  simp only [Finset.mem_biUnion, Finset.mem_univ, true_and, iff_true]
  have h0 : (i 0).val < 512 := (i 0).isLt
  have h1 : (i 1).val < 512 := (i 1).isLt
  refine ⟨⟨(i 0).val / 128, by omega⟩, Rect.mem_set_unit.mpr (Fin.forall_fin_two.mpr ⟨?_, ?_⟩)⟩
  · show 128 * ((i 0).val / 128) ≤ (i 0).val ∧ (i 0).val < 128 * ((i 0).val / 128) + 128
    omega
  · show 0 ≤ (i 1).val ∧ (i 1).val < 0 + 512
    omega

/-- Different chunks of 1024 rows share no element, -/
theorem xRect_disjoint (p p' : Fin 2 × Fin 4) (h : p ≠ p') : Disjoint (xRect p.1 p.2).set (xRect p'.1 p'.2).set := by
  refine Rect.unit_disjoint (0 : Fin 2) ?_
  have hp : ¬ (p.1.val = p'.1.val ∧ p.2.val = p'.2.val) := fun e => h (Prod.ext (Fin.ext e.1) (Fin.ext e.2))
  have := p.2.isLt; have := p'.2.isLt; have := p.1.isLt; have := p'.1.isLt
  show 512 * p.1.val + 128 * p.2.val + 128 ≤ 512 * p'.1.val + 128 * p'.2.val
    ∨ 512 * p'.1.val + 128 * p'.2.val + 128 ≤ 512 * p.1.val + 128 * p.2.val
  omega

/-- and the eight are all of them. -/
theorem xRect_cover : Finset.univ.biUnion (fun p : Fin 2 × Fin 4 => (xRect p.1 p.2).set) = Finset.univ := by
  ext i
  simp only [Finset.mem_biUnion, Finset.mem_univ, true_and, iff_true]
  have h0 : (i 0).val < 1024 := (i 0).isLt
  have h1 : (i 1).val < 512 := (i 1).isLt
  refine ⟨(⟨(i 0).val / 512, by omega⟩, ⟨(i 0).val % 512 / 128, by omega⟩),
    Rect.mem_set_unit.mpr (Fin.forall_fin_two.mpr ⟨?_, ?_⟩)⟩
  · show 512 * ((i 0).val / 512) + 128 * ((i 0).val % 512 / 128) ≤ (i 0).val
      ∧ (i 0).val < 512 * ((i 0).val / 512) + 128 * ((i 0).val % 512 / 128) + 128
    omega
  · show 0 ≤ (i 1).val ∧ (i 1).val < 0 + 512
    omega

/-! ## What the kernel's own offsets name -/

/-- The rows a device reads of its block: the 512 of its half. -/
abbrev inRect (c : Dev nD) : Rect S1024x512 :=
  Rect.unit (s := S1024x512) (k0_off1 c) S512x512.size (k0_off1_inb c)

/-- The store of chunk `k` names chunk `k` of the device's half; so does the transfer of it. -/
theorem off2_eq (c : Dev nD) (k : Fin 4) :
    k0_off2 c (BitVec.ofNat 32 (128 * k.val)) = ![512 * (half c).val + 128 * k.val, 0] := k0_off2_eq c k
/-- The source of chunk `k`'s transfer along x names the same rows. -/
theorem off3_eq (c : Dev nD) (k : Fin 4) :
    k0_off3 c (BitVec.ofNat 32 (128 * k.val)) = ![512 * (half c).val + 128 * k.val, 0] := k0_off3_eq c k

/-! ## Contents -/

variable (X : Dev nD → Vec F S1024x512 .bf16)

/-- What device `c` puts in its send buffer: the rows of its half of its block. -/
def sb (c : Dev nD) : Vec F S512x512 .bf16 :=
  k0_pay1 (inM.view.readAt (Elt F) (inRect c).toLoadRect (X c))

/-- The sum of a device's block and its z partner's. -/
def sumX (c : Dev nD) : Vec F S1024x512 .bf16 := addf (X c) (X (zp c))

/-- The result on device `c`: its own half of the rows as `c` sums them, the other half as its x partner does. -/
def outF (c : Dev nD) : Vec F S1024x512 .bf16 :=
  fun i => if (i 0).val / 512 = (half c).val then sumX X c i else sumX X (xp c) i

/-- Element by element: row `r` of the send buffer is row `r` of the device's half of its block. -/
theorem sb_apply (c : Dev nD) (i : S512x512.Idx) : sb X c i = X c ((inRect c).emb i) := by
  unfold sb k0_pay1
  rw [shapeCast_self, shapeCast_self]
  rfl

/-- A landing of chunk `k` of a send buffer in the receive buffer leaves there the send buffer's rows. -/
theorem landed_z (k : Fin 4) (fd fs : Vec F S512x512 .bf16) (i : S512x512.Idx) (hi : i ∈ (rCh k).view.set) :
    (rCh k).view.write (Elt F) fd ((sCh k).view.read (Elt F) fs) Finset.univ i = fs i := by
  obtain ⟨x, -, rfl⟩ := Finset.mem_map.mp hi
  rw [View.write_emb_of_mem _ _ (Finset.mem_univ x), View.read_apply]
  rfl

/-- A landing of a chunk of one device's result in another's leaves there the first one's rows. -/
theorem landed_x (h : Fin 2) (k : Fin 4) (fd fs : Vec F S1024x512 .bf16) (i : S1024x512.Idx) (hi : i ∈ (oCh h k).view.set) :
    (oCh h k).view.write (Elt F) fd ((oCh h k).view.read (Elt F) fs) Finset.univ i = fs i := by
  obtain ⟨x, -, rfl⟩ := Finset.mem_map.mp hi
  rw [View.write_emb_of_mem _ _ (Finset.mem_univ x), View.read_apply]
  rfl

/-- Row `r` of chunk `k` of a device's half of its block is row `r` of the chunk of the whole block. -/
theorem inRect_zRect (c : Dev nD) (k : Fin 4) (x : S128x512.Idx) :
    (inRect c).emb ((zRect k).emb x) = (xRect (half c) k).emb x := by
  funext a
  refine Fin.ext ?_
  show k0_off1 c a + 1 * ((![128 * k.val, 0] : Fin 2 → Nat) a + 1 * (x a).val)
    = (![512 * (half c).val + 128 * k.val, 0] : Fin 2 → Nat) a + 1 * (x a).val
  rw [k0_off1_eq]
  revert a
  refine Fin.forall_fin_two.mpr ⟨?_, ?_⟩
  · show 512 * (c.val / 4) + 1 * (128 * k.val + 1 * (x 0).val) = 512 * (c.val / 4) + 128 * k.val + 1 * (x 0).val
    omega
  · show 0 + 1 * (0 + 1 * (x 1).val) = 0 + 1 * (x 1).val
    omega

/-- The sum of chunk `k` of what `c` sent and of what it received, stored at chunk `k` of its half of the result, leaves
    there the sum of the two blocks. -/
theorem stored_sum (c : Dev nD) (k : Fin 4) (f : Vec F S1024x512 .bf16) (i : S1024x512.Idx) (hi : i ∈ (oCh (half c) k).view.set) :
    (outM.access (xRect (half c) k)).write (Elt F) f
      (addf (sM.view.readAt (Elt F) (zRect k).toLoadRect (sb X c)) (rM.view.readAt (Elt F) (zRect k).toLoadRect (sb X (zp c))))
      Finset.univ i = sumX X c i := by
  obtain ⟨x, -, rfl⟩ := Finset.mem_map.mp hi
  have e1 : (sM.view.readAt (Elt F) (zRect k).toLoadRect (sb X c)) x = X c ((xRect (half c) k).emb x) := by
    rw [← inRect_zRect]; exact sb_apply X c _
  have e2 : (rM.view.readAt (Elt F) (zRect k).toLoadRect (sb X (zp c))) x = X (zp c) ((xRect (half c) k).emb x) := by
    rw [← half_zp, ← inRect_zRect]; exact sb_apply X (zp c) _
  refine (View.write_emb_of_mem _ _ (Finset.mem_univ x)).trans ?_
  show FloatOps.addf _ _ = FloatOps.addf _ _
  rw [e1, e2]
  rfl

/-- On a chunk of the device's own half the result is its own sum, -/
theorem outF_own (c : Dev nD) (k : Fin 4) (i : S1024x512.Idx) (hi : i ∈ (oCh (half c) k).view.set) :
    sumX X c i = outF X c i := by
  rw [oCh_set] at hi
  have h : 512 * (half c).val + 128 * k.val ≤ (i 0).val ∧ (i 0).val < 512 * (half c).val + 128 * k.val + 128 :=
    (Rect.mem_set_unit.mp hi) 0
  have := k.isLt
  unfold outF
  rw [if_pos (by omega)]

/-- on a chunk of the other half its x partner's. -/
theorem outF_other (c : Dev nD) (k : Fin 4) (i : S1024x512.Idx) (hi : i ∈ (oCh (half (xp c)) k).view.set) :
    sumX X (xp c) i = outF X c i := by
  rw [oCh_set] at hi
  have h : 512 * (half (xp c)).val + 128 * k.val ≤ (i 0).val ∧ (i 0).val < 512 * (half (xp c)).val + 128 * k.val + 128 :=
    (Rect.mem_set_unit.mp hi) 0
  have hne : (half c).val ≠ (half (xp c)).val := fun e => half_ne c (Fin.ext e)
  have := k.isLt
  unfold outF
  rw [if_neg (by omega)]

end Cert.KernelIdeal.Exchange

end
-- ==== Proof.KernelIdealProtocol.lean ====
/-
Who waits for whom, and what each semaphore hands over.

Every device `c` has seventeen semaphores in play: the runtime's barrier, and four arrays of four, one entry per chunk.
Each is used for ONE round.

* The BARRIER of `c` gets one unit from each partner, and `c` waits for both. The z partner's unit hands `c` the z
  partner's whole receive buffer to write in; the x partner's hands `c` the x partner's rows of the result that `c` computes.
* z SEND, chunk `k`: the device's own transfer returns half of the ownership of the chunk it read.
* z RECEIVE, chunk `k`: the z partner's transfer hands over the receive buffer's chunk, holding the z partner's rows.
* x SEND, chunk `k`: the device's own transfer returns the chunk of the result it read, holding the sum.
* x RECEIVE, chunk `k`: the x partner's transfer hands over the chunk of the other half of the result, holding the x
  partner's sum.

A device pays, in this order: the z partner's barrier, the x partner's barrier, the z partner's four z receives, the x
partner's four x receives. No wait is circular: barriers are below z receives, and those below x receives.
-/
module

public import proofs.«01_k».proof.Proof.KernelIdealViews

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds beside this kernel's -/

/-- The ghost state of this kernel's rounds, -/
abbrev UX : Type := URounds (GSem nD τ sig) Bool
/-- beside that of the pipeline's. -/
abbrev UU : Type := UR sig nD τ × UX

local notation "𝕄" => MT nD τ sig Unit (Elt F) ℕ UU ℕ

/-- Where the pipeline's lies, -/
abbrev EP : Emb (UR sig nD τ) (MT nD τ sig Unit (Elt F) ℕ UU ℕ) := embL
/-- and where this kernel's does. -/
abbrev ER : Emb UX (MT nD τ sig Unit (Elt F) ℕ UU ℕ) := embR

/-! ## The semaphores -/

/-- A device's semaphores: the barrier, or array `a` at chunk `k` — `a` is 0 for z send, 1 for z receive, 2 for x send,
    3 for x receive. -/
abbrev Kd : Type := Option (Fin 4 × Fin 4)

/-- The runtime's barrier semaphore. -/
abbrev barS : Sem sig := (SemArray.scalar (sig.barrier 0 rfl) : Sems sig S_).sem

/-- The transfer semaphore of array `a` at chunk `k`. -/
def xferS (a k : Fin 4) : DmaSem sig :=
  ⟨2 + 4 * a.val + k.val, by have := a.isLt; have := k.isLt; show 2 + 4 * a.val + k.val < 18; omega⟩

/-- The semaphore that `K` names. -/
def csem : Kd → SemLoc sig
  | none => .reg barS
  | some p => .dma (xferS p.1 p.2)

/-- Which of them a semaphore is, if it is one. -/
def kindOf : SemLoc sig → Option Kd
  | .reg s => if s = barS then some none else none
  | .dma q =>
    if 2 ≤ q.val then
      some (some (⟨(q.val - 2) / 4, by have h : q.val < 18 := q.isLt; omega⟩, ⟨(q.val - 2) % 4, Nat.mod_lt _ (by decide)⟩))
    else none

/-- `kindOf` recovers the name. -/
theorem kindOf_csem : ∀ K : Kd, kindOf (csem K) = some K := by decide

/-- Different names are different semaphores, -/
theorem csem_inj {K K' : Kd} (h : csem K = csem K') : K = K' :=
  Option.some.inj ((kindOf_csem K).symm.trans ((congrArg kindOf h).trans (kindOf_csem K')))

/-- Semaphore `K` of device `c`. -/
abbrev cell (c : Dev nD) (K : Kd) : GSem nD τ sig := ((c : Thread nD τ), csem K)

/-- on different devices too. -/
theorem cell_inj {c c' : Dev nD} {K K' : Kd} (h : cell c K = cell c' K') : c = c' ∧ K = K' :=
  ⟨congrArg (fun g : GSem nD τ sig => g.1.1) h, csem_inj (congrArg Prod.snd h)⟩

/-- What one chunk's transfer credits. -/
abbrev N : ℕ := (rCh 0).view.dmaCredit
/-- A chunk's transfer credits something. -/
theorem N_pos : 0 < N := View.dmaCredit_pos _ (by decide)

/-! ## What is handed over -/

/-- Chunk `k` of device `c`'s send buffer, share `q`, at contents `f`; -/
def sPts (c : Dev nD) (k : Fin 4) (q : PosShare TreeShare) (f : Vec F S512x512 .bf16) : sProp 𝕄 :=
  (sCh k).view.loc (c : Thread nD τ) ↦[(sCh k).view.set]{q} f
/-- of its receive buffer; -/
def rPts (c : Dev nD) (k : Fin 4) (f : Vec F S512x512 .bf16) : sProp 𝕄 :=
  (rCh k).view.loc (c : Thread nD τ) ↦[(rCh k).view.set]{fullShare} f
/-- of half `h` of its result. -/
def oPts (c : Dev nD) (h : Fin 2) (k : Fin 4) (f : Vec F S1024x512 .bf16) : sProp 𝕄 :=
  (oCh h k).view.loc (c : Thread nD τ) ↦[(oCh h k).view.set]{fullShare} f

instance sPts_storable (c : Dev nD) (k q f) : BI.Storable (upEmb : UEmb _ 𝕄) (sPts (F := F) c k q f) := by
  unfold sPts; infer_instance
instance rPts_storable (c : Dev nD) (k f) : BI.Storable (upEmb : UEmb _ 𝕄) (rPts (F := F) c k f) := by
  unfold rPts; infer_instance
instance oPts_storable (c : Dev nD) (h k f) : BI.Storable (upEmb : UEmb _ 𝕄) (oPts (F := F) c h k f) := by
  unfold oPts; infer_instance

/-- Device `c`'s receive buffer, chunk by chunk, at some contents; -/
def rAny (c : Dev nD) : sProp 𝕄 := bigSep Finset.univ fun k : Fin 4 => iprop(∃ f, rPts c k f)
/-- half `h` of its result. -/
def oAny (c : Dev nD) (h : Fin 2) : sProp 𝕄 := bigSep Finset.univ fun k : Fin 4 => iprop(∃ f, oPts c h k f)

variable (X : Dev nD → Vec F S1024x512 .bf16)

/-- What semaphore `K` of device `c` hands `c` for its duty `d`. -/
def pay (c : Dev nD) (K : Kd) (d : Bool) : sProp 𝕄 :=
  match K with
  | none => if d then oAny (xp c) (half c) else rAny (zp c)
  | some (0, k) => sPts c k fullShare.left (sb X c)
  | some (1, k) => rPts c k (sb X (zp c))
  | some (2, k) => oPts c (half c) k (sumX X c)
  | some (3, k) => oPts c (half (xp c)) k (sumX X (xp c))

instance pay_storable (c : Dev nD) (K : Kd) (d : Bool) : BI.Storable (upEmb : UEmb _ 𝕄) (pay (F := F) X c K d) := by
  unfold pay oAny rAny
  split
  · split <;> infer_instance
  all_goals infer_instance

/-- Its duties: the barrier's two, one of every other. -/
def dutiesOf : Option Kd → Finset Bool
  | none => ∅
  | some none => Finset.univ
  | some (some _) => {false}

/-- The units of each: one at the barrier, a chunk's credit at the others. -/
def amountOf : Option Kd → ℕ
  | some (some _) => N
  | _ => 1

/-- What a wait takes off it. -/
def totalOf : Kd → ℕ
  | none => 2
  | some _ => N

/-- No duty is of zero units. -/
theorem amountOf_pos (o : Option Kd) : 0 < amountOf o := by
  rcases o with _ | _ | p
  · exact Nat.one_pos
  · exact Nat.one_pos
  · exact N_pos

/-- The schedule of all the semaphores: one round each. -/
def Rd : Rounds.Schedule (GSem nD τ sig) Bool 𝕄 where
  duties g r := if r = 0 ∧ g.1.2 = .tc then dutiesOf (kindOf g.2) else ∅
  unitless _ := False
  amount g _ _ := amountOf (kindOf g.2)
  payload g _ d := (kindOf g.2).elim iprop(emp) fun K => pay X g.1.1 K d
  amount_pos g _ _ _ := amountOf_pos _

instance Rd_payload_storable (g : GSem nD τ sig) (r : ℕ) (d : Bool) :
    BI.Storable (upEmb : UEmb _ 𝕄) ((Rd (F := F) X).payload g r d) := by
  show BI.Storable upEmb ((kindOf g.2).elim iprop(emp) fun K => pay X g.1.1 K d)
  cases kindOf g.2 <;> (dsimp only [Option.elim]; infer_instance)

/-- The schedule read at a device's semaphore: its duties in the one round, -/
theorem duties_cell (c : Dev nD) (K : Kd) : (Rd (F := F) X).duties (cell c K) 0 = dutiesOf (some K) := by
  dsimp only [Rd]; rw [if_pos ⟨rfl, rfl⟩, kindOf_csem]
/-- none in a later one, -/
theorem duties_later (g : GSem nD τ sig) (r : ℕ) (hr : 1 ≤ r) : (Rd (F := F) X).duties g r = ∅ := by
  dsimp only [Rd]; rw [if_neg fun h => by omega]
/-- their amounts, -/
theorem amount_cell (c : Dev nD) (K : Kd) (d : Bool) : (Rd (F := F) X).amount (cell c K) 0 d = amountOf (some K) := by
  dsimp only [Rd]; rw [kindOf_csem]
/-- what they hand over, -/
theorem payload_cell (c : Dev nD) (K : Kd) (d : Bool) : (Rd (F := F) X).payload (cell c K) 0 d = pay X c K d := by
  dsimp only [Rd]; rw [kindOf_csem]; rfl

/-- and the units of the round in all. -/
theorem expect_cell (c : Dev nD) (K : Kd) : (Rd (F := F) X).expect (cell c K) 0 = totalOf K := by
  unfold Schedule.expect Schedule.amountOf
  rw [duties_cell, Finset.sum_congr rfl fun d _ => amount_cell X c K d, Finset.sum_const]
  rcases K with _ | p
  · rfl
  · show Finset.card {false} • N = N
    rw [Finset.card_singleton, one_smul]

/-- All that a wait on semaphore `K` of device `c` hands over. -/
def payAll (c : Dev nD) : Kd → sProp 𝕄
  | none => iprop(pay X c none false ∗ pay X c none true)
  | some p => pay X c (some p) false

/-- What remains of a round of which nothing has been taken is all of it. -/
theorem rest_cell (c : Dev nD) (K : Kd) :
    bigSep ((Rd (F := F) X).duties (cell c K) 0 \ ∅) (fun d => (Rd (F := F) X).payload (cell c K) 0 d) = payAll X c K := by
  rw [Finset.sdiff_empty, duties_cell, bigSep_congr fun d _ => payload_cell X c K d]
  rcases K with _ | p
  · show bigSep Finset.univ _ = _
    rw [bigSep_univ_eq_bigSepL [false, true] (by decide) (by decide), bigSepL_cons_cons, bigSepL_singleton]
    rfl
  · exact bigSep_singleton

/-! ## What is owed, in the order it is paid -/

/-- The ten debts every device starts with: to which partner, on which of its semaphores, how many units. -/
def plan : List ((Dev nD ≃ Dev nD) × Kd × ℕ) :=
  [(zSwap, none, 1), (xSwap, none, 1),
   (zSwap, some (1, 0), N), (zSwap, some (1, 1), N), (zSwap, some (1, 2), N), (zSwap, some (1, 3), N),
   (xSwap, some (3, 0), N), (xSwap, some (3, 1), N), (xSwap, some (3, 2), N), (xSwap, some (3, 3), N)]

/-- Such a list as what device `c` owes, the head to be paid first. -/
def owL (c : Dev nD) : List ((Dev nD ≃ Dev nD) × Kd × ℕ) → CellTallies nD τ sig Unit
  | [] => 0
  | p :: l => owL c l + tallyAt (cell (p.1 c) p.2.1) () p.2.2

/-- What device `c` owes after its first `j` payments. -/
abbrev debt (c : Dev nD) (j : ℕ) : CellTallies nD τ sig Unit := owL c (plan.drop j)

/-- Whatever a device owes, some entry of its list says so. -/
theorem owL_pos {c : Dev nD} {l} {g : GSem nD τ sig} {u : Unit} (h : 0 < owL c l g u) : ∃ p ∈ l, g = cell (p.1 c) p.2.1 := by
  induction l with
  | nil => exact absurd h (Nat.lt_irrefl 0)
  | cons p l ih =>
    unfold owL at h
    rw [Pi.add_apply, Finsupp.add_apply, tallyAt_apply] at h
    by_cases hg : g = cell (p.1 c) p.2.1
    · exact ⟨p, List.mem_cons_self, hg⟩
    · rw [if_neg fun h' => hg h'.1, Nat.add_zero] at h
      obtain ⟨p', hp', e⟩ := ih h
      exact ⟨p', List.mem_cons_of_mem _ hp', e⟩

/-! ## Levels: nobody waits in a circle -/

/-- Debts are on the devices' own semaphores only. -/
def L (g : GSem nD τ sig) : Finset Unit := if g.1.2 = .tc then {()} else ∅

/-- The level of a semaphore: barriers 1, z receives 2, x receives 3, everything nobody owes 0. -/
def lvK : Option Kd → ℕ
  | some none => 1
  | some (some (1, _)) => 2
  | some (some (3, _)) => 3
  | _ => 0

/-- The level of a debt is its semaphore's. -/
def lv (g : GSem nD τ sig) (_ : Unit) : ℕ := lvK (kindOf g.2)

/-- No other core has any, -/
theorem L_of_ne (g : GSem nD τ sig) (h : g.1.2 ≠ .tc) : L g = ∅ := if_neg h
/-- and the device's core has one kind. -/
theorem L_tc (c : Dev nD) (sm : SemLoc sig) : L ((c : Thread nD τ), sm) = {()} := if_pos rfl

/-- A device may wait on a semaphore below every debt it still has. -/
theorem mayWait (c : Dev nD) (sm : SemLoc sig) (l : List ((Dev nD ≃ Dev nD) × Kd × ℕ))
    (h : ∀ p ∈ l, lvK (kindOf sm) < lvK (some p.2.1)) :
    (levAts L lv : sProp 𝕄) ⊢ MayWait (c : Thread nD τ) sm () (owL c l) :=
  MayOwe.of_cut (L := L) (lev := lv) (lvK (kindOf sm))
    (fun p hp => by rw [Finset.mem_singleton.mp hp, L_tc]; exact Finset.mem_singleton_self _)
    (fun g u hg => by
      obtain ⟨p, -, rfl⟩ := owL_pos hg
      rw [L_tc]; exact Finset.mem_singleton_self _)
    (fun p hp => by rw [Finset.mem_singleton.mp hp]; exact Nat.le_refl _)
    (fun g u hg => by
      obtain ⟨p, hp, rfl⟩ := owL_pos hg
      show _ < lvK (kindOf (csem p.2.1))
      rw [kindOf_csem]; exact h p hp)

/-- What all devices together owe semaphore `K` of a device under such a list. -/
def credit (K : Kd) : List ((Dev nD ≃ Dev nD) × Kd × ℕ) → ℕ
  | [] => 0
  | p :: l => credit K l + if p.2.1 = K then p.2.2 else 0

/-- Summed over the devices, the debts on one semaphore are what the list grants it: each partner map is a permutation. -/
theorem owL_sum (c : Dev nD) (K : Kd) (l) : (∑ d : Dev nD, owL d l (cell c K) ()) = credit K l := by
  induction l with
  | nil => exact Finset.sum_const_zero
  | cons p l ih =>
    have e (d : Dev nD) : owL d (p :: l) (cell c K) ()
        = owL d l (cell c K) () + if d = p.1.symm c then (if p.2.1 = K then p.2.2 else 0) else 0 := by
      show (owL d l + tallyAt (cell (p.1 d) p.2.1) () p.2.2) (cell c K) () = _
      rw [Pi.add_apply, Finsupp.add_apply, tallyAt_apply]
      congr 1
      by_cases hd : d = p.1.symm c
      · rw [if_pos hd]
        by_cases hK : p.2.1 = K
        · rw [if_pos hK, if_pos ⟨by rw [hd, hK, Equiv.apply_symm_apply], rfl⟩]
        · rw [if_neg hK, if_neg fun h => hK (cell_inj h.1).2.symm]
      · rw [if_neg hd, if_neg fun h => hd (by rw [(cell_inj h.1).1, Equiv.symm_apply_apply])]
    rw [Finset.sum_congr rfl fun d _ => e d, Finset.sum_add_distrib, ih, Finset.sum_ite_eq' Finset.univ (p.1.symm c) fun _ => _,
      if_pos (Finset.mem_univ _)]
    rfl

/-- A barrier is owed two units, -/
theorem credit_bar : credit none plan = 2 := rfl
/-- a z receive one chunk's credit, -/
theorem credit_zrecv : ∀ k : Fin 4, credit (some (1, k)) plan = N
  | 0 => rfl | 1 => rfl | 2 => rfl | 3 => rfl
/-- and an x receive one chunk's credit. -/
theorem credit_xrecv : ∀ k : Fin 4, credit (some (3, k)) plan = N
  | 0 => rfl | 1 => rfl | 2 => rfl | 3 => rfl

end Cert.KernelIdeal.Exchange

end
-- ==== Proof.KernelIdealSteps.lean ====
/-
The kernel's operations, one rule each, at a symbolic device `c`: a signal at the barrier, a wait, a transfer of a chunk
along z, the work on one chunk (wait for the partner's rows, add, store, transfer along x).
-/
module

public import proofs.«01_k».proof.Proof.KernelIdealProtocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a variant. -/
abbrev 𝒱₀ : Variants := Variants.none

variable (X : Dev nD → Vec F S1024x512 .bf16) (κ : Dev nD × Kd → ℕ)

/-- The invariants of all devices' semaphores, at the names `κ`, and that all have reached their one round. -/
def records : sProp 𝕄 :=
  iprop((bigSep Finset.univ fun q : Dev nD × Kd => cellInv ER (Rd X) (κ q) (cell q.1 q.2))
    ∗ bigSep Finset.univ fun q : Dev nD × Kd => reached ER (cell q.1 q.2) 0)

instance records_persistent : BI.Persistent (records (F := F) X κ) := by unfold records; infer_instance

/-- One semaphore's invariant and round, out of all of them. -/
theorem records_at (c : Dev nD) (K : Kd) :
    records X κ ⊢ iprop(cellInv ER (Rd X) (κ (c, K)) (cell c K) ∗ reached ER (cell c K) 0 : sProp 𝕄) := by
  unfold records
  exact BIClass.sep_mono (bigSep_elim (Finset.mem_univ (c, K))) (bigSep_elim (Finset.mem_univ (c, K)))

/-- What device `c` owes after `j` payments, whatever it has waited on so far. -/
def ow (c : Dev nD) (j : ℕ) : sProp 𝕄 := iprop(∃ W, owes (c : Thread nD τ) (debt c j) W)

/-- A program of device `c` run to the postcondition `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A signal to device `t`'s barrier: the device hands over what the duty promises and pays the debt. -/
theorem step_signal {α : Type} {Q : α → sProp 𝕄} {k : PUnit → Prog (TpuEff nD τ sig (Elt F) Λ₀ .tc) α}
    (c t : Dev nD) (d : Bool) (j j' : ℕ) {n : Dev nD} (hn : n = t) {a : ℕ} (ha : 1 = a)
    (hO : debt c j = debt c j' + tallyAt (cell t none) () 1) :
    iprop(records X κ ∗ ow c j ∗ dutyTok ER (cell t none) 0 d ∗ pay X t none d)
      ⊢ iprop((ow c j' -∗ runs c (k ⟨⟩) Q) -∗ runs c (.op (.semSignal (n : Thread nD τ) barS a) k) Q) := by
  subst hn ha
  unfold ow
  iintro ⟨#HR, ⟨%W, Ho⟩, Ht, Hp⟩ Hk
  ihave #HR' := (records_at X κ n none) $$ HR
  icases HR' with ⟨#Hi, #Hr⟩
  iapply (Rounds.wp_signal 𝒱₀ ER (Rd X) (c : Thread nD τ) none (dst := (n : Thread nD τ)) (κ := κ (n, none)) (r := 0)
      (d := d) (by rw [show ((n : Thread nD τ), SemLoc.reg barS) = cell n none from rfl, duties_cell]; exact Finset.mem_univ _)
      (amount_cell X n none d) () (debt c j') hO) $$ [Ho Ht Hp]
  · isplitr; · iexact Hi
    isplitl [Ho]; · iexact Ho
    isplitl [Ht]; · iexact Ht
    isplitl [Hp]
    · rw [show ((n : Thread nD τ), SemLoc.reg barS) = cell n none from rfl, payload_cell]; iexact Hp
    iexact Hr
  iintro Ho
  iapply Hk
  iexists W; iexact Ho

/-- A wait for all of the device's semaphore `K`: it is closed at zero, and everything it hands over is the device's. -/
theorem step_wait {α : Type} {Q : α → sProp 𝕄} {k : PUnit → Prog (TpuEff nD τ sig (Elt F) Λ₀ .tc) α}
    (c : Dev nD) (K : Kd) (j : ℕ) {w : TpuEff nD τ sig (Elt F) Λ₀ .tc PUnit} {a : ℕ}
    (hw : ∀ P : PUnit → sProp 𝕄, wpE (defs₀ (F := F)) 𝒱₀ (c : Thread nD τ) none Set.univ w P = waitSpec (c : Thread nD τ) Set.univ (csem K) a P)
    (ha : a = totalOf K) (hlv : ∀ p ∈ plan.drop j, lvK (some K) < lvK (some p.2.1)) :
    iprop(records X κ ∗ levAts L lv ∗ ow c j ∗ cred (tallyAt (cell c K) () (totalOf K)) ∗ atPos ER (cell c K) 0 ∅ 0)
      ⊢ iprop(((ow c j ∗ semVal (cell c K) 0 ∗ payAll X c K) -∗ runs c (k ⟨⟩) Q) -∗ runs c (.op w k) Q) := by
  subst ha
  unfold ow
  iintro ⟨#HR, #Hl, ⟨%W, Ho⟩, Hc, Ha⟩ Hk
  ihave #HR' := (records_at X κ c K) $$ HR
  icases HR' with ⟨#Hi, -⟩
  iapply (Rounds.wp_wait_rest_token 𝒱₀ ER (Rd X) (c : Thread nD τ) none (κ := κ (c, K)) hw (Set.mem_univ _) ()
      (O := debt c j) (W := W) (R := 0) (m := 0) (T := ∅) ((Nat.zero_add _).trans (expect_cell X c K).symm)) $$ [Ho Hc Ha]
  · isplitr; · iexact Hi
    isplitl [Hc]; · iexact Hc
    isplitl [Ho]; · iexact Ho
    isplitr
    · iapply (mayWait c (csem K) (plan.drop j) (by rw [kindOf_csem]; exact hlv)); iexact Hl
    iexact Ha
  iintro ⟨Ho, Ha, -, Hp⟩
  imod (Rounds.cell_close ER (Rd X) (Set.mem_univ (κ (c, K))) (fun h => h) (R := 0 + 1) (duties_later X (cell c K))) $$ [Ha] with Hz
  · isplitr; · iexact Hi
    iexact Ha
  ihave Hp' := (Entails.of_eq (rest_cell X c K)) $$ Hp
  iapply Hk
  isplitl [Ho]
  · iexists _; iexact Ho
  isplitl [Hz] <;> iassumption

/-- Every chunk's transfer credits the same, whichever buffer the chunk is of. -/
theorem credit_chunk (m : Memref sig .tc .vmem S128x512 .bf16) : m.view.dmaCredit = N := rfl

/-- A wait for one chunk's transfer, on the transfer semaphore of array `a` at chunk `i`. -/
theorem step_waitDma {α : Type} {Q : α → sProp 𝕄} {k : PUnit → Prog (TpuEff nD τ sig (Elt F) Λ₀ .tc) α}
    (c : Dev nD) (a i : Fin 4) (j : ℕ) {s : DmaSem sig} (hs : s = xferS a i)
    (hlv : ∀ p ∈ plan.drop j, lvK (some (some (a, i))) < lvK (some p.2.1))
    {src dst : Memref sig .tc .vmem S128x512 .bf16} {h₁ h₂} :
    iprop(records X κ ∗ levAts L lv ∗ ow c j ∗ cred (tallyAt (cell c (some (a, i))) () N) ∗ atPos ER (cell c (some (a, i))) 0 ∅ 0)
      ⊢ iprop(((ow c j ∗ semVal (cell c (some (a, i))) 0 ∗ pay X c (some (a, i)) false) -∗ runs c (k ⟨⟩) Q)
          -∗ runs c (.op (.waitDma2 s src dst h₁ h₂) k) Q) := by
  subst hs
  exact step_wait X κ c (some (a, i)) j (wpE_waitDma2_eq 𝒱₀ (c : Thread nD τ) none Set.univ) (credit_chunk dst) hlv

/-- The transfer of chunk `i` of the send buffer to the z partner's receive buffer. -/
theorem step_zsend {α : Type} {Q : α → sProp 𝕄} {k : PUnit → Prog (TpuEff nD τ sig (Elt F) Λ₀ .tc) α}
    (c : Dev nD) (i : Fin 4) (j j' : ℕ) {n : Dev nD} (hn : n = zp c) {o : Fin 2 → ℕ} (ho : o = ![128 * i.val, 0])
    {inb : ∀ a, o a + S128x512.size a ≤ S512x512.size a} {s₁ s₂ : DmaSem sig} (hs₁ : s₁ = xferS 0 i) (hs₂ : s₂ = xferS 1 i)
    (hO : debt c j = debt c j' + tallyAt (cell (zp c) (some (1, i))) () N)
    {h₁ h₂} {hsc : (rM.slice (Rect.unit (s := S512x512) o S128x512.size inb) h₂ : Memref sig (Dev.tc n : Thread nD τ).2.kind .vmem S128x512 .bf16).view.ref.isScScratch = false}
    {hsrc hdst hsem} :
    iprop(records X κ ∗ ow c j ∗ sPts c i fullShare.left (sb X c) ∗ (∃ f, rPts (zp c) i f)
        ∗ dutyTok ER (cell c (some (0, i))) 0 false ∗ dutyTok ER (cell (zp c) (some (1, i))) 0 false)
      ⊢ iprop(((cred (tallyAt (cell c (some (0, i))) () N) ∗ ow c j') -∗ runs c (k ⟨⟩) Q)
          -∗ runs c (.op (.enqueueDma (sM.slice (Rect.unit (s := S512x512) o S128x512.size inb) h₁)
              (.remote (Dev.tc n : Thread nD τ) (rM.slice (Rect.unit (s := S512x512) o S128x512.size inb) h₂) (.dma s₁) hsc)
              (.dma s₂) hsrc hdst hsem) k) Q) := by
  subst hn ho hs₁ hs₂
  unfold ow
  iintro ⟨#HR, ⟨%W, Ho⟩, Hs, ⟨%f, Hd⟩, Ht₁, Ht₂⟩ Hk
  ihave #HR₁ := (records_at X κ c (some (0, i))) $$ HR
  ihave #HR₂ := (records_at X κ (zp c) (some (1, i))) $$ HR
  icases HR₁ with ⟨#Hi₁, #Hr₁⟩
  icases HR₂ with ⟨#Hi₂, #Hr₂⟩
  unfold sPts rPts
  iapply (Rounds.wp_send_pointsTo 𝒱₀ ER (Rd X) (c : Thread nD τ) none (c' := (zp c : Thread nD τ)) (src := sCh i) (dst := rCh i)
      (sS := .dma (xferS 0 i)) (sem := .dma (xferS 1 i)) (κ₁ := κ (c, some (0, i))) (κ₂ := κ (zp c, some (1, i)))
      (r₁ := 0) (r₂ := 0) (d₁ := false) (d₂ := false) (q := fullShare.left) (fs := sb X c) (fd := f)
      (by rw [show ((c : Thread nD τ), SemLoc.dma (xferS 0 i)) = cell c (some (0, i)) from rfl, duties_cell]; exact Finset.mem_singleton_self _)
      (by rw [show ((zp c : Thread nD τ), SemLoc.dma (xferS 1 i)) = cell (zp c) (some (1, i)) from rfl, duties_cell]; exact Finset.mem_singleton_self _)
      () () N rfl (amount_cell X c (some (0, i)) false) (amount_cell X (zp c) (some (1, i)) false) (debt c j') hO (W := W)
      (by
        rw [show ((c : Thread nD τ), SemLoc.dma (xferS 0 i)) = cell c (some (0, i)) from rfl, payload_cell]
        exact BI.Entails.refl _)
      (by
        rw [show ((zp c : Thread nD τ), SemLoc.dma (xferS 1 i)) = cell (zp c) (some (1, i)) from rfl, payload_cell]
        show _ ⊢ rPts (zp c) i (sb X (zp (zp c)))
        rw [zp_zp]
        exact Entails.of_eq (pointsTo_congr fun x hx => landed_z i f (sb X c) x hx))) $$ [Ho Hs Hd Ht₁ Ht₂]
  · isplitr; · iexact Hi₁
    isplitr; · iexact Hi₂
    isplitl [Hs]; · iexact Hs
    isplitl [Hd]; · iexact Hd
    isplitl [Ho]; · iexact Ho
    isplitl [Ht₁]; · iexact Ht₁
    isplitr; · iexact Hr₁
    isplitl [Ht₂]; · iexact Ht₂
    iexact Hr₂
  iintro ⟨Hc, Ho⟩
  iapply Hk
  isplitl [Hc]; · iexact Hc
  iexists W; iexact Ho

/-- The transfer of chunk `i` of the device's half of the result to the x partner's result. -/
theorem step_xsend {α : Type} {Q : α → sProp 𝕄} {k : PUnit → Prog (TpuEff nD τ sig (Elt F) Λ₀ .tc) α}
    (c : Dev nD) (i : Fin 4) (j j' : ℕ) {n : Dev nD} (hn : n = xp c) {o : Fin 2 → ℕ}
    (ho : o = ![512 * (half c).val + 128 * i.val, 0])
    {inb : ∀ a, o a + S128x512.size a ≤ S1024x512.size a} {s₁ s₂ : DmaSem sig} (hs₁ : s₁ = xferS 2 i) (hs₂ : s₂ = xferS 3 i)
    (hO : debt c j = debt c j' + tallyAt (cell (xp c) (some (3, i))) () N)
    {h₁ h₂} {hsc : (outM.slice (Rect.unit (s := S1024x512) o S128x512.size inb) h₂ : Memref sig (Dev.tc n : Thread nD τ).2.kind .vmem S128x512 .bf16).view.ref.isScScratch = false}
    {hsrc hdst hsem} :
    iprop(records X κ ∗ ow c j ∗ oPts c (half c) i (sumX X c) ∗ (∃ f, oPts (xp c) (half c) i f)
        ∗ dutyTok ER (cell c (some (2, i))) 0 false ∗ dutyTok ER (cell (xp c) (some (3, i))) 0 false)
      ⊢ iprop(((cred (tallyAt (cell c (some (2, i))) () N) ∗ ow c j') -∗ runs c (k ⟨⟩) Q)
          -∗ runs c (.op (.enqueueDma (outM.slice (Rect.unit (s := S1024x512) o S128x512.size inb) h₁)
              (.remote (Dev.tc n : Thread nD τ) (outM.slice (Rect.unit (s := S1024x512) o S128x512.size inb) h₂) (.dma s₁) hsc)
              (.dma s₂) hsrc hdst hsem) k) Q) := by
  subst hn ho hs₁ hs₂
  unfold ow
  iintro ⟨#HR, ⟨%W, Ho⟩, Hs, ⟨%f, Hd⟩, Ht₁, Ht₂⟩ Hk
  ihave #HR₁ := (records_at X κ c (some (2, i))) $$ HR
  ihave #HR₂ := (records_at X κ (xp c) (some (3, i))) $$ HR
  icases HR₁ with ⟨#Hi₁, #Hr₁⟩
  icases HR₂ with ⟨#Hi₂, #Hr₂⟩
  unfold oPts
  iapply (Rounds.wp_send_pointsTo 𝒱₀ ER (Rd X) (c : Thread nD τ) none (c' := (xp c : Thread nD τ)) (src := oCh (half c) i) (dst := oCh (half c) i)
      (sS := .dma (xferS 2 i)) (sem := .dma (xferS 3 i)) (κ₁ := κ (c, some (2, i))) (κ₂ := κ (xp c, some (3, i)))
      (r₁ := 0) (r₂ := 0) (d₁ := false) (d₂ := false) (q := fullShare) (fs := sumX X c) (fd := f)
      (by rw [show ((c : Thread nD τ), SemLoc.dma (xferS 2 i)) = cell c (some (2, i)) from rfl, duties_cell]; exact Finset.mem_singleton_self _)
      (by rw [show ((xp c : Thread nD τ), SemLoc.dma (xferS 3 i)) = cell (xp c) (some (3, i)) from rfl, duties_cell]; exact Finset.mem_singleton_self _)
      () () N rfl (amount_cell X c (some (2, i)) false) (amount_cell X (xp c) (some (3, i)) false) (debt c j') hO (W := W)
      (by
        rw [show ((c : Thread nD τ), SemLoc.dma (xferS 2 i)) = cell c (some (2, i)) from rfl, payload_cell]
        exact BI.Entails.refl _)
      (by
        rw [show ((xp c : Thread nD τ), SemLoc.dma (xferS 3 i)) = cell (xp c) (some (3, i)) from rfl, payload_cell]
        show _ ⊢ oPts (xp c) (half (xp (xp c))) i (sumX X (xp (xp c)))
        rw [xp_xp]
        exact Entails.of_eq (pointsTo_congr fun x hx => landed_x (half c) i f (sumX X c) x hx))) $$ [Ho Hs Hd Ht₁ Ht₂]
  · isplitr; · iexact Hi₁
    isplitr; · iexact Hi₂
    isplitl [Hs]; · iexact Hs
    isplitl [Hd]; · iexact Hd
    isplitl [Ho]; · iexact Ho
    isplitl [Ht₁]; · iexact Ht₁
    isplitr; · iexact Hr₁
    isplitl [Ht₂]; · iexact Ht₂
    iexact Hr₂
  iintro ⟨Hc, Ho⟩
  iapply Hk
  isplitl [Hc]; · iexact Hc
  iexists W; iexact Ho

end Cert.KernelIdeal.Exchange

end
-- ==== Proof.KernelIdealChunk.lean ====
/-
The work on one chunk, at a symbolic device `c` and chunk `i`: wait until the z partner's rows have landed, add them to
the device's own, store the sum in the result, and start its transfer to the x partner.
-/
module

public import proofs.«01_k».proof.Proof.KernelIdealSteps

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x512 .bf16) (κ : Dev nD × Kd → ℕ)

/-- The load of a chunk of the send buffer touches that chunk only; -/
theorem sM_load (i : Fin 4) : sM.view.setOn (zRect i).toLoadRect.set ⊆ (sCh i).view.set := (View.set_slice sM.view (zRect i)).ge
/-- so does that of the receive buffer, -/
theorem rM_load (i : Fin 4) : rM.view.setOn (zRect i).toLoadRect.set ⊆ (rCh i).view.set := (View.set_slice rM.view (zRect i)).ge
/-- that of the result, -/
theorem outM_load (h : Fin 2) (i : Fin 4) : outM.view.setOn (xRect h i).toLoadRect.set ⊆ (oCh h i).view.set :=
  (View.set_slice outM.view (xRect h i)).ge

/-- and the store to the result. -/
theorem outM_store (h : Fin 2) (i : Fin 4) : (outM.access (xRect h i)).setOn Finset.univ ⊆ (oCh h i).view.set := Finset.Subset.refl _

/-- What device `c` needs for its work on chunk `i`: the credit and position of its z receive, its share of its own rows,
    the chunk of the result on both devices of the x pair, and the tokens of the transfer's two duties. -/
def chunkPre (c : Dev nD) (i : Fin 4) : sProp 𝕄 :=
  iprop(cred (tallyAt (cell c (some (1, i))) () N) ∗ atPos ER (cell c (some (1, i))) 0 ∅ 0
    ∗ sPts c i fullShare.right (sb X c) ∗ (∃ f, oPts c (half c) i f) ∗ (∃ f, oPts (xp c) (half c) i f)
    ∗ dutyTok ER (cell c (some (2, i))) 0 false ∗ dutyTok ER (cell (xp c) (some (3, i))) 0 false)

/-- What it has afterwards: its z receive closed, its share of its own rows, the partner's rows, and the credit of its x send. -/
def chunkPost (c : Dev nD) (i : Fin 4) : sProp 𝕄 :=
  iprop(semVal (cell c (some (1, i))) 0 ∗ sPts c i fullShare.right (sb X c) ∗ rPts c i (sb X (zp c))
    ∗ cred (tallyAt (cell c (some (2, i))) () N))

/-- The work on one chunk: wait for the partner's rows, add the device's own, store the sum, send it along x. -/
theorem step_chunk {α : Type} {Q : α → sProp 𝕄} {k : PUnit → Prog (TpuEff nD τ sig (Elt F) Λ₀ .tc) α}
    (c : Dev nD) (i : Fin 4) (j j' : ℕ) {n : Dev nD} (hn : n = xp c) {oz o₂ o₃ : Fin 2 → ℕ} (hoz : oz = ![128 * i.val, 0])
    (ho₂ : o₂ = ![512 * (half c).val + 128 * i.val, 0]) (ho₃ : o₃ = ![512 * (half c).val + 128 * i.val, 0])
    {inbz : ∀ a, oz a + S128x512.size a ≤ S512x512.size a} {inb₂ : ∀ a, o₂ a + S128x512.size a ≤ S1024x512.size a}
    {inb₃ : ∀ a, o₃ a + S128x512.size a ≤ S1024x512.size a}
    {s₁ s₂ s₃ : DmaSem sig} (hs₁ : s₁ = xferS 1 i) (hs₂ : s₂ = xferS 2 i) (hs₃ : s₃ = xferS 3 i)
    (hO : debt c j = debt c j' + tallyAt (cell (xp c) (some (3, i))) () N)
    (hlv : ∀ p ∈ plan.drop j, lvK (some (some (1, i))) < lvK (some p.2.1))
    {u₁ u₂ p₁ p₂ l₁ l₂ l₃ e₁ e₂ h₁ h₂}
    {hsc : (outM.slice (Rect.unit (s := S1024x512) o₃ S128x512.size inb₃) h₂ : Memref sig (Dev.tc n : Thread nD τ).2.kind .vmem S128x512 .bf16).view.ref.isScScratch = false}
    {hsrc hdst hsem} :
    iprop(records X κ ∗ levAts L lv ∗ ow c j ∗ chunkPre X c i)
      ⊢ iprop(((ow c j' ∗ chunkPost X c i) -∗ runs c (k ⟨⟩) Q)
          -∗ runs c
            (.op (.waitDma2 s₁ (sM.slice (Rect.unit (s := S512x512) oz S128x512.size inbz) u₁)
                (rM.slice (Rect.unit (s := S512x512) oz S128x512.size inbz) u₂) p₁ p₂) fun _ =>
              .op (.load sM (Rect.unit (s := S512x512) oz S128x512.size inbz).toLoadRect l₁) fun (v : Vec F S128x512 .bf16) =>
              .op (.load rM (Rect.unit (s := S512x512) oz S128x512.size inbz).toLoadRect l₂) fun (w : Vec F S128x512 .bf16) =>
              .op (.load outM (Rect.unit (s := S1024x512) o₂ S128x512.size inb₂).toLoadRect l₃) fun _ =>
              .op (.store outM (Rect.unit (s := S1024x512) o₂ S128x512.size inb₂) (addf (F := F) (s := S128x512) (φ := .bf16) v w) Finset.univ e₁ e₂) fun _ =>
              .op (.enqueueDma (outM.slice (Rect.unit (s := S1024x512) o₃ S128x512.size inb₃) h₁)
                (.remote (Dev.tc n : Thread nD τ) (outM.slice (Rect.unit (s := S1024x512) o₃ S128x512.size inb₃) h₂) (.dma s₂) hsc)
                (.dma s₃) hsrc hdst hsem) k) Q) := by
  subst hn hoz ho₂ ho₃ hs₁ hs₂ hs₃
  unfold chunkPre chunkPost
  iintro ⟨#HR, #Hl, Ho, Hc, Ha, Hs, ⟨%f, Hout⟩, Hd, Ht₁, Ht₂⟩ Hk
  iapply (step_waitDma X κ c 1 i j rfl hlv) $$ [Ho Hc Ha]
  · isplitr; · iexact HR
    isplitr; · iexact Hl
    isplitl [Ho]; · iexact Ho
    isplitl [Hc]; · iexact Hc
    iexact Ha
  iintro ⟨Ho, Hz, Hr⟩
  ihave Hr := (show pay X c (some (1, i)) false ⊢ rPts c i (sb X (zp c)) from BI.Entails.refl _) $$ Hr
  unfold sPts rPts oPts
  iapply (wp_load 𝒱₀ (c : Thread nD τ) none Set.univ (m := sM) (sM_load i)) $$ Hs; iintro Hs
  iapply (wp_load 𝒱₀ (c : Thread nD τ) none Set.univ (m := rM) (rM_load i)) $$ Hr; iintro Hr
  iapply (wp_load 𝒱₀ (c : Thread nD τ) none Set.univ (m := outM) (outM_load (half c) i)) $$ Hout; iintro Hout
  iapply (wp_store 𝒱₀ (c : Thread nD τ) none Set.univ (m := outM) (r := xRect (half c) i) (Mk := Finset.univ) (outM_store (half c) i)) $$ Hout; iintro Hout
  ihave Hout := (show _ ⊢ oPts c (half c) i (sumX X c) from
    Entails.of_eq (pointsTo_congr fun x hx => stored_sum X c i f x hx)) $$ Hout
  iapply (step_xsend X κ c i j j' rfl rfl rfl rfl hO) $$ [Ho Hout Hd Ht₁ Ht₂]
  · isplitr; · iexact HR
    isplitl [Ho]; · iexact Ho
    isplitl [Hout]; · iexact Hout
    isplitl [Hd]; · unfold oPts; iexact Hd
    isplitl [Ht₁] <;> iassumption
  iintro ⟨Hc, Ho⟩
  iapply Hk
  isplitl [Ho]; · iexact Ho
  isplitl [Hz]; · iexact Hz
  isplitl [Hs]; · iexact Hs
  isplitl [Hr] <;> iassumption

end Cert.KernelIdeal.Exchange

end
-- ==== Proof.KernelIdealBody.lean ====
/-
The kernel's body, executed once at a symbolic device `c`, from what the launch gives the device to what it leaves: the
result holding both halves of the sum, the operand unchanged, every semaphore closed at zero.
-/
module

public import proofs.«01_k».proof.Proof.KernelIdealChunk
public import Idealize.ShloMosaic.Lib.Ring

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers in chunks -/

/-- A family of four is its members. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The two halves of the rows, from either device's point of view. -/
theorem halves (c : Dev nD) (Φ : Fin 2 → sProp 𝕄) : bigSep Finset.univ Φ = iprop(Φ (half c) ∗ Φ (half (xp c))) := by
  rw [half_xp]
  refine (bigSep_fin_two Φ).trans ?_
  rcases (by revert c; decide : half c = 0 ∨ half c = 1) with h | h
  · rw [h]; rfl
  · rw [h]; exact BI.Entails.antisymm (sep_comm (PROP := sProp 𝕄)).1 (sep_comm (PROP := sProp 𝕄)).2

/-- A chunk by its rows is the chunk as the kernel names it: of the send buffer, the receive buffer, the result. -/
theorem s_chunk (c : Dev nD) (i : Fin 4) (q : PosShare TreeShare) (f : Vec F S512x512 .bf16) :
    (((c : Thread nD τ).loc cc0_scratch0) ↦[(zRect i).set]{q} f : sProp 𝕄) = sPts c i q f :=
  congrArg (fun I : Finset (Idx ((c : Thread nD τ).loc cc0_scratch0)) => (((c : Thread nD τ).loc cc0_scratch0) ↦[I]{q} f : sProp 𝕄)) (sCh_set i).symm
/-- The receive buffer's. -/
theorem r_chunk (c : Dev nD) (i : Fin 4) (f : Vec F S512x512 .bf16) :
    (((c : Thread nD τ).loc cc0_scratch1) ↦[(zRect i).set]{fullShare} f : sProp 𝕄) = rPts c i f :=
  congrArg (fun I : Finset (Idx ((c : Thread nD τ).loc cc0_scratch1)) => (((c : Thread nD τ).loc cc0_scratch1) ↦[I]{fullShare} f : sProp 𝕄)) (rCh_set i).symm
/-- The result's. -/
theorem o_chunk (c : Dev nD) (h : Fin 2) (i : Fin 4) (f : Vec F S1024x512 .bf16) :
    (((c : Thread nD τ).loc cc0_stg1_0) ↦[(xRect h i).set]{fullShare} f : sProp 𝕄) = oPts c h i f :=
  congrArg (fun I : Finset (Idx ((c : Thread nD τ).loc cc0_stg1_0)) => (((c : Thread nD τ).loc cc0_stg1_0) ↦[I]{fullShare} f : sProp 𝕄)) (oCh_set h i).symm

/-- The send buffer, held whole, is held by its chunks, half of the ownership of each apart. -/
theorem s_split (c : Dev nD) (f : Vec F S512x512 .bf16) :
    (((c : Thread nD τ).loc cc0_scratch0) ↦{fullShare} f : sProp 𝕄)
      ⊣⊢ iprop((bigSep Finset.univ fun i : Fin 4 => sPts c i fullShare.left f) ∗ bigSep Finset.univ fun i : Fin 4 => sPts c i fullShare.right f) := by
  have e (q : PosShare TreeShare) : (((c : Thread nD τ).loc cc0_scratch0) ↦{q} f : sProp 𝕄) = bigSep Finset.univ fun i : Fin 4 => sPts c i q f :=
    (Ring.pointsTo_blocks (ℓ := (c : Thread nD τ).loc cc0_scratch0) (fun i : Fin 4 => (zRect i).set) zRect_disjoint zRect_cover f).trans
      (bigSep_congr fun i _ => s_chunk c i q f)
  rw [← e, ← e]
  exact pointsTo_share (PosShare.mem_left_op_right _)

/-- The receive buffer, held whole, is held by its chunks; -/
theorem r_split (c : Dev nD) (f : Vec F S512x512 .bf16) :
    (((c : Thread nD τ).loc cc0_scratch1) ↦{fullShare} f : sProp 𝕄) = bigSep Finset.univ fun i : Fin 4 => rPts c i f :=
  (Ring.pointsTo_blocks (ℓ := (c : Thread nD τ).loc cc0_scratch1) (fun i : Fin 4 => (zRect i).set) zRect_disjoint zRect_cover f).trans
    (bigSep_congr fun i _ => r_chunk c i f)

/-- so is the result, the device's own half apart. -/
theorem o_split (c : Dev nD) (f : Vec F S1024x512 .bf16) :
    (((c : Thread nD τ).loc cc0_stg1_0) ↦{fullShare} f : sProp 𝕄)
      = iprop((bigSep Finset.univ fun i : Fin 4 => oPts c (half c) i f) ∗ bigSep Finset.univ fun i : Fin 4 => oPts c (half (xp c)) i f) := by
  have e : (((c : Thread nD τ).loc cc0_stg1_0) ↦{fullShare} f : sProp 𝕄)
      = bigSep Finset.univ fun p : Fin 2 × Fin 4 => oPts c p.1 p.2 f :=
    (Ring.pointsTo_blocks (ℓ := (c : Thread nD τ).loc cc0_stg1_0) (fun p : Fin 2 × Fin 4 => (xRect p.1 p.2).set) xRect_disjoint xRect_cover f).trans
      (bigSep_congr fun p _ => o_chunk c p.1 p.2 f)
  rw [e, bigSep_univ_prod, halves c]

/-- Chunks held at one contents are held at some. -/
theorem r_any (c : Dev nD) (f : Vec F S512x512 .bf16) : (bigSep Finset.univ fun i : Fin 4 => rPts (F := F) c i f) ⊢ rAny c :=
  bigSep_mono fun i _ => exists_intro (Φ := fun g => rPts (F := F) c i g) f
/-- The result's likewise. -/
theorem o_any (c : Dev nD) (h : Fin 2) (f : Vec F S1024x512 .bf16) : (bigSep Finset.univ fun i : Fin 4 => oPts (F := F) c h i f) ⊢ oAny c h :=
  bigSep_mono fun i _ => exists_intro (Φ := fun g => oPts (F := F) c h i g) f

variable (X : Dev nD → Vec F S1024x512 .bf16) (κ : Dev nD × Kd → ℕ)

/-- What a closed z send gives back: the share of the rows sent; -/
theorem pay_zsend (c : Dev nD) (i : Fin 4) : pay X c (some (0, i)) false = sPts c i fullShare.left (sb X c) := rfl
/-- an x send: the device's own sums; -/
theorem pay_xsend (c : Dev nD) (i : Fin 4) : pay X c (some (2, i)) false = oPts c (half c) i (sumX X c) := rfl
/-- and what an x receive brings: the partner's sums. -/
theorem pay_xrecv (c : Dev nD) (i : Fin 4) : pay X c (some (3, i)) false = oPts c (half (xp c)) i (sumX X (xp c)) := rfl

/-- The device's own sums and its x partner's, chunk by chunk, are the result. -/
theorem o_join (c : Dev nD) :
    iprop((bigSep Finset.univ fun i : Fin 4 => oPts c (half c) i (sumX X c)) ∗ bigSep Finset.univ fun i : Fin 4 => oPts c (half (xp c)) i (sumX X (xp c)))
      ⊢ (((c : Thread nD τ).loc cc0_stg1_0) ↦{fullShare} outF X c : sProp 𝕄) := by
  rw [o_split]
  exact BIClass.sep_mono (bigSep_mono fun i _ => Entails.of_eq (pointsTo_congr fun x hx => outF_own X c i x hx))
    (bigSep_mono fun i _ => Entails.of_eq (pointsTo_congr fun x hx => outF_other X c i x hx))

/-! ## What the body starts from and ends in -/

/-- Array `a` of a family over the semaphores. -/
abbrev arr (Φ : Kd → sProp 𝕄) (a : Fin 4) : sProp 𝕄 := bigSep Finset.univ fun i : Fin 4 => Φ (some (a, i))

/-- A family over an optional index: at none, then at the rest. -/
theorem option_split {I : Type} [Fintype I] [DecidableEq I] (Φ : Option I → sProp 𝕄) :
    bigSep Finset.univ Φ = iprop(Φ none ∗ bigSep Finset.univ fun i : I => Φ (some i)) := by
  rw [bigSep_univ_at Φ none, show (Finset.univ.erase none : Finset (Option I)) = Finset.univ.map Function.Embedding.some from by
    ext o; cases o <;> simp, bigSep_map]
  rfl

/-- A family over the semaphores: the barrier's, then array by array. -/
theorem kinds_split (Φ : Kd → sProp 𝕄) :
    bigSep Finset.univ Φ = iprop(Φ none ∗ arr Φ 0 ∗ arr Φ 1 ∗ arr Φ 2 ∗ arr Φ 3) := by
  rw [option_split, bigSep_univ_prod (fun p : Fin 4 × Fin 4 => Φ (some p)), four]

/-- The same, semaphore by semaphore. -/
theorem kinds_four (Φ : Kd → sProp 𝕄) :
    bigSep Finset.univ Φ = iprop(Φ none ∗ (Φ (some (0, 0)) ∗ Φ (some (0, 1)) ∗ Φ (some (0, 2)) ∗ Φ (some (0, 3)))
      ∗ (Φ (some (1, 0)) ∗ Φ (some (1, 1)) ∗ Φ (some (1, 2)) ∗ Φ (some (1, 3)))
      ∗ (Φ (some (2, 0)) ∗ Φ (some (2, 1)) ∗ Φ (some (2, 2)) ∗ Φ (some (2, 3)))
      ∗ (Φ (some (3, 0)) ∗ Φ (some (3, 1)) ∗ Φ (some (3, 2)) ∗ Φ (some (3, 3)))) := by
  rw [kinds_split]; unfold arr; rw [four, four, four, four]

/-- The tokens of the duties device `c` pays: its two signals, its four transfers along z, its four along x. -/
def toks (c : Dev nD) : sProp 𝕄 :=
  iprop(dutyTok ER (cell (zp c) none) 0 false ∗ dutyTok ER (cell (xp c) none) 0 true
    ∗ (bigSep Finset.univ fun i : Fin 4 => dutyTok ER (cell c (some (0, i))) 0 false)
    ∗ (bigSep Finset.univ fun i : Fin 4 => dutyTok ER (cell (zp c) (some (1, i))) 0 false)
    ∗ (bigSep Finset.univ fun i : Fin 4 => dutyTok ER (cell c (some (2, i))) 0 false)
    ∗ (bigSep Finset.univ fun i : Fin 4 => dutyTok ER (cell (xp c) (some (3, i))) 0 false))

/-- The credits device `c` starts with: for its barrier, its z receives and its x receives. -/
def creds (c : Dev nD) : sProp 𝕄 :=
  iprop(cred (tallyAt (cell c none) () 2) ∗ (bigSep Finset.univ fun i : Fin 4 => cred (tallyAt (cell c (some (1, i))) () N))
    ∗ bigSep Finset.univ fun i : Fin 4 => cred (tallyAt (cell c (some (3, i))) () N))

/-- Its positions: at the start of the one round of each of its semaphores. -/
def poss (c : Dev nD) : sProp 𝕄 := bigSep Finset.univ fun K : Kd => atPos ER (cell c K) 0 ∅ 0

/-- What one transfer along z takes. -/
def zPre (c : Dev nD) (i : Fin 4) : sProp 𝕄 :=
  iprop(sPts c i fullShare.left (sb X c) ∗ (∃ f, rPts (zp c) i f)
    ∗ dutyTok ER (cell c (some (0, i))) 0 false ∗ dutyTok ER (cell (zp c) (some (1, i))) 0 false)

/-- What one wait takes. -/
def wPre (c : Dev nD) (a i : Fin 4) : sProp 𝕄 :=
  iprop(cred (tallyAt (cell c (some (a, i))) () N) ∗ atPos ER (cell c (some (a, i))) 0 ∅ 0)

/-- After the barrier everything falls into the packages of the transfers, the chunks and the waits. -/
theorem packages (c : Dev nD) :
    iprop((bigSep Finset.univ fun i : Fin 4 => sPts c i fullShare.left (sb X c)) ∗ (bigSep Finset.univ fun i : Fin 4 => sPts c i fullShare.right (sb X c))
        ∗ rAny (zp c) ∗ oAny c (half c) ∗ oAny (xp c) (half c)
        ∗ (bigSep Finset.univ fun i : Fin 4 => cred (tallyAt (cell c (some (1, i))) () N))
        ∗ (bigSep Finset.univ fun i : Fin 4 => cred (tallyAt (cell c (some (3, i))) () N))
        ∗ arr (fun K => atPos ER (cell c K) 0 ∅ 0) 1 ∗ arr (fun K => atPos ER (cell c K) 0 ∅ 0) 3
        ∗ (bigSep Finset.univ fun i : Fin 4 => dutyTok ER (cell c (some (0, i))) 0 false)
        ∗ (bigSep Finset.univ fun i : Fin 4 => dutyTok ER (cell (zp c) (some (1, i))) 0 false)
        ∗ (bigSep Finset.univ fun i : Fin 4 => dutyTok ER (cell c (some (2, i))) 0 false)
        ∗ (bigSep Finset.univ fun i : Fin 4 => dutyTok ER (cell (xp c) (some (3, i))) 0 false))
      ⊢ iprop((bigSep Finset.univ fun i : Fin 4 => zPre X c i) ∗ (bigSep Finset.univ fun i : Fin 4 => chunkPre X c i)
        ∗ (bigSep Finset.univ fun i : Fin 4 => wPre c 3 i) : sProp 𝕄) := by
  unfold zPre chunkPre wPre rAny oAny arr
  simp only [bigSep_sep']
  iintro ⟨H1, H2, H3, H4, H5, H6, H7, H8, H9, H10, H11, H12, H13⟩
  isplitl [H1 H3 H10 H11]
  · isplitl [H1]; · iexact H1
    isplitl [H3]; · iexact H3
    isplitl [H10] <;> iassumption
  isplitl [H2 H4 H5 H6 H8 H12 H13]
  · isplitl [H6]; · iexact H6
    isplitl [H8]; · iexact H8
    isplitl [H2]; · iexact H2
    isplitl [H4]; · iexact H4
    isplitl [H5]; · iexact H5
    isplitl [H12] <;> iassumption
  isplitl [H7] <;> iassumption

/-- Before the body: the whole of the four buffers, and all tokens, credits and positions. -/
def bodyPre (c : Dev nD) : sProp 𝕄 :=
  iprop(records X κ ∗ levAts L lv ∗ ow c 0 ∗ toks c ∗ creds c ∗ poss c
    ∗ (((c : Thread nD τ).loc cc0_stg0_0) ↦{fullShare} X c) ∗ (∃ f : Vec F S1024x512 .bf16, ((c : Thread nD τ).loc cc0_stg1_0) ↦{fullShare} f)
    ∗ (∃ f : Vec F S512x512 .bf16, ((c : Thread nD τ).loc cc0_scratch0) ↦{fullShare} f)
    ∗ (∃ f : Vec F S512x512 .bf16, ((c : Thread nD τ).loc cc0_scratch1) ↦{fullShare} f))

/-- After it: the operand as it was, the result, the rows sent and the rows received, and every semaphore at zero. -/
def bodyPost (c : Dev nD) : sProp 𝕄 :=
  iprop(ow c 10 ∗ (bigSep Finset.univ fun K : Kd => semVal (cell c K) 0)
    ∗ (((c : Thread nD τ).loc cc0_stg0_0) ↦{fullShare} X c) ∗ (((c : Thread nD τ).loc cc0_stg1_0) ↦{fullShare} outF X c)
    ∗ (((c : Thread nD τ).loc cc0_scratch0) ↦{fullShare} sb X c) ∗ (((c : Thread nD τ).loc cc0_scratch1) ↦{fullShare} sb X (zp c)))

/-- The offset of a whole buffer. -/
theorem zero_off : (![0, 0] : Fin 2 → Nat) = fun _ => 0 := funext fun a => by fin_cases a <;> rfl

/-- What the first store leaves in the send buffer. -/
theorem sent (c : Dev nD) (f : Vec F S512x512 .bf16) :
    (sM.access (Rect.unit (s := S512x512) ![0, 0] S512x512.size inb_S512x512_S512x512_0_0)).write (Elt F) f
      (k0_pay1 (inM.view.readAt (Elt F) (inRect c).toLoadRect (X c))) Finset.univ = sb X c :=
  Memref.write_access_unit_zero_univ (Elt F) cc0_scratch0 zero_off _ f _

/-- The device the first signal names is the z partner, -/
theorem dev1 (c : Dev nD) : (⟨k0_dev1 c, k0_dev1_lt c⟩ : Dev nD) = zp c := Fin.ext (k0_dev1_eq c)
/-- the second's the x partner; -/
theorem dev2 (c : Dev nD) : (⟨k0_dev2 c, k0_dev2_lt c⟩ : Dev nD) = xp c := Fin.ext (k0_dev2_eq c)
/-- the first transfer along z goes to the z partner, -/
theorem dev3 (c : Dev nD) : (⟨k0_dev3 c, k0_dev3_lt c⟩ : Dev nD) = zp c := Fin.ext (k0_dev3_eq c)
/-- so does the second, -/
theorem dev4 (c : Dev nD) : (⟨k0_dev4 c, k0_dev4_lt c⟩ : Dev nD) = zp c := Fin.ext (k0_dev4_eq c)
/-- the third, -/
theorem dev5 (c : Dev nD) : (⟨k0_dev5 c, k0_dev5_lt c⟩ : Dev nD) = zp c := Fin.ext (k0_dev5_eq c)
/-- and the fourth; -/
theorem dev6 (c : Dev nD) : (⟨k0_dev6 c, k0_dev6_lt c⟩ : Dev nD) = zp c := Fin.ext (k0_dev6_eq c)
/-- the first transfer along x goes to the x partner, -/
theorem dev7 (c : Dev nD) : (⟨k0_dev7 c, k0_dev7_lt c⟩ : Dev nD) = xp c := Fin.ext (k0_dev7_eq c)
/-- so does the second, -/
theorem dev8 (c : Dev nD) : (⟨k0_dev8 c, k0_dev8_lt c⟩ : Dev nD) = xp c := Fin.ext (k0_dev8_eq c)
/-- the third, -/
theorem dev9 (c : Dev nD) : (⟨k0_dev9 c, k0_dev9_lt c⟩ : Dev nD) = xp c := Fin.ext (k0_dev9_eq c)
/-- and the fourth. -/
theorem dev10 (c : Dev nD) : (⟨k0_dev10 c, k0_dev10_lt c⟩ : Dev nD) = xp c := Fin.ext (k0_dev10_eq c)

set_option maxHeartbeats 4000000 in
/-- The body runs from `bodyPre` to `bodyPost`. -/
theorem body_runs (c : Dev nD) (Kt : PUnit → sProp 𝕄) :
    iprop(bodyPre X κ c ∗ (bodyPost X c -∗ Kt ⟨⟩))
      ⊢ runs c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  unfold runs
  simp only [cc0_body_eq_skeleton]; unfold cc0_body_skel
  simp only [k0_part9_eq_skeleton]; unfold k0_part9_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId, k0_pay2, k0_pay3, k0_pay4, k0_pay5]
  unfold bodyPre toks creds poss
  rw [kinds_split]
  iintro ⟨⟨#HR, #Hl, Ho, ⟨Htz, Htx, Ht0, Ht1, Ht2, Ht3⟩, ⟨HcB, Hc1, Hc3⟩, ⟨HaB, Ha0, Ha1, Ha2, Ha3⟩, Hx, ⟨%fo, Hout⟩, ⟨%fs, Hs⟩, ⟨%fr, Hr⟩⟩, Hk⟩
  -- the device's rows into the send buffer
  iapply (wp_load 𝒱₀ (c : Thread nD τ) none Set.univ (m := inM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM)
    (r := Rect.unit (s := S512x512) ![0, 0] S512x512.size inb_S512x512_S512x512_0_0) (Mk := Finset.univ) (Finset.subset_univ _)) $$ Hs; iintro Hs
  rw [sent X c fs]
  ihave Hs := (s_split c (sb X c)).1 $$ Hs
  icases Hs with ⟨HsL, HsR⟩
  -- the two signals: the receive buffer to the z partner, the x partner's half of the result to the x partner
  ihave Hout := (Entails.of_eq (o_split c fo)) $$ Hout
  icases Hout with ⟨HoutA, HoutB⟩
  ihave Hr := ((Entails.of_eq (r_split c fr)).trans (r_any c fr)) $$ Hr
  ihave HoutA := (o_any c (half c) fo) $$ HoutA
  ihave HoutB := (o_any c (half (xp c)) fo) $$ HoutB
  iapply (step_signal X κ c (zp c) false 0 1 (dev1 c) (by decide) rfl) $$ [Ho Htz Hr]
  · isplitr; · iexact HR
    isplitl [Ho]; · iexact Ho
    isplitl [Htz]; · iexact Htz
    iapply (show rAny c ⊢ pay X (zp c) none false from Entails.of_eq (by unfold pay; rw [zp_zp]; rfl)); iexact Hr
  iintro Ho
  iapply (step_signal X κ c (xp c) true 1 2 (dev2 c) (by decide) rfl) $$ [Ho Htx HoutB]
  · isplitr; · iexact HR
    isplitl [Ho]; · iexact Ho
    isplitl [Htx]; · iexact Htx
    iapply (show oAny c (half (xp c)) ⊢ pay X (xp c) none true from Entails.of_eq (by unfold pay; rw [xp_xp]; rfl)); iexact HoutB
  iintro Ho
  -- the barrier
  iapply (step_wait X κ c none 2 (wpE_semWait_eq 𝒱₀ (c : Thread nD τ) none Set.univ) (by decide) (by decide)) $$ [Ho HcB HaB]
  · isplitr; · iexact HR
    isplitr; · iexact Hl
    isplitl [Ho]; · iexact Ho
    isplitl [HcB]; · iexact HcB
    iexact HaB
  iintro ⟨Ho, HzB, Hp⟩
  ihave Hp := (show payAll X c none ⊢ iprop(rAny (zp c) ∗ oAny (xp c) (half c)) from BI.Entails.refl _) $$ Hp
  icases Hp with ⟨HrN, HoutN⟩
  ihave Hpk := (packages X c) $$ [HsL HsR HrN HoutA HoutN Hc1 Hc3 Ha1 Ha3 Ht0 Ht1 Ht2 Ht3]
  · isplitl [HsL]; · iexact HsL
    isplitl [HsR]; · iexact HsR
    isplitl [HrN]; · iexact HrN
    isplitl [HoutA]; · iexact HoutA
    isplitl [HoutN]; · iexact HoutN
    isplitl [Hc1]; · iexact Hc1
    isplitl [Hc3]; · iexact Hc3
    isplitl [Ha1]; · iexact Ha1
    isplitl [Ha3]; · iexact Ha3
    isplitl [Ht0]; · iexact Ht0
    isplitl [Ht1]; · iexact Ht1
    isplitl [Ht2] <;> iassumption
  icases Hpk with ⟨Hz, Hk', Hw⟩
  ihave Hz := (Entails.of_eq (four _)) $$ Hz
  ihave Hk' := (Entails.of_eq (four _)) $$ Hk'
  ihave Hw := (Entails.of_eq (four _)) $$ Hw
  ihave Ha0 := (Entails.of_eq (four _)) $$ Ha0
  ihave Ha2 := (Entails.of_eq (four _)) $$ Ha2
  icases Hz with ⟨Hz0, Hz1, Hz2, Hz3⟩
  icases Hk' with ⟨Hk0, Hk1, Hk2, Hk3⟩
  icases Hw with ⟨Hw0, Hw1, Hw2, Hw3⟩
  icases Ha0 with ⟨Ha00, Ha01, Ha02, Ha03⟩
  icases Ha2 with ⟨Ha20, Ha21, Ha22, Ha23⟩
  -- the four transfers along z
  unfold zPre
  iapply (step_zsend X κ c 0 2 3 (dev3 c) rfl rfl rfl rfl) $$ [Ho Hz0]
  · isplitr; · iexact HR
    isplitl [Ho] <;> iassumption
  iintro ⟨Hs0, Ho⟩
  iapply (step_zsend X κ c 1 3 4 (dev4 c) rfl rfl rfl rfl) $$ [Ho Hz1]
  · isplitr; · iexact HR
    isplitl [Ho] <;> iassumption
  iintro ⟨Hs1, Ho⟩
  iapply (step_zsend X κ c 2 4 5 (dev5 c) rfl rfl rfl rfl) $$ [Ho Hz2]
  · isplitr; · iexact HR
    isplitl [Ho] <;> iassumption
  iintro ⟨Hs2, Ho⟩
  iapply (step_zsend X κ c 3 5 6 (dev6 c) rfl rfl rfl rfl) $$ [Ho Hz3]
  · isplitr; · iexact HR
    isplitl [Ho] <;> iassumption
  iintro ⟨Hs3, Ho⟩
  -- the four chunks
  iapply (step_chunk X κ c 0 6 7 (dev7 c) rfl (off2_eq c 0) (off3_eq c 0) rfl rfl rfl rfl (by decide)) $$ [Ho Hk0]
  · isplitr; · iexact HR
    isplitr; · iexact Hl
    isplitl [Ho] <;> iassumption
  iintro ⟨Ho, Hk0⟩
  iapply (step_chunk X κ c 1 7 8 (dev8 c) rfl (off2_eq c 1) (off3_eq c 1) rfl rfl rfl rfl (by decide)) $$ [Ho Hk1]
  · isplitr; · iexact HR
    isplitr; · iexact Hl
    isplitl [Ho] <;> iassumption
  iintro ⟨Ho, Hk1⟩
  iapply (step_chunk X κ c 2 8 9 (dev9 c) rfl (off2_eq c 2) (off3_eq c 2) rfl rfl rfl rfl (by decide)) $$ [Ho Hk2]
  · isplitr; · iexact HR
    isplitr; · iexact Hl
    isplitl [Ho] <;> iassumption
  iintro ⟨Ho, Hk2⟩
  iapply (step_chunk X κ c 3 9 10 (dev10 c) rfl (off2_eq c 3) (off3_eq c 3) rfl rfl rfl rfl (by decide)) $$ [Ho Hk3]
  · isplitr; · iexact HR
    isplitr; · iexact Hl
    isplitl [Ho] <;> iassumption
  iintro ⟨Ho, Hk3⟩
  unfold chunkPost
  icases Hk0 with ⟨Hz10, HsR0, Hr0, Hx0⟩
  icases Hk1 with ⟨Hz11, HsR1, Hr1, Hx1⟩
  icases Hk2 with ⟨Hz12, HsR2, Hr2, Hx2⟩
  icases Hk3 with ⟨Hz13, HsR3, Hr3, Hx3⟩
  -- the four waits for the x partner's rows
  unfold wPre
  iapply (step_waitDma X κ c 3 0 10 rfl (by decide)) $$ [Ho Hw0]
  · isplitr; · iexact HR
    isplitr; · iexact Hl
    isplitl [Ho] <;> iassumption
  iintro ⟨Ho, Hz30, Hp0⟩
  iapply (step_waitDma X κ c 3 1 10 rfl (by decide)) $$ [Ho Hw1]
  · isplitr; · iexact HR
    isplitr; · iexact Hl
    isplitl [Ho] <;> iassumption
  iintro ⟨Ho, Hz31, Hp1⟩
  iapply (step_waitDma X κ c 3 2 10 rfl (by decide)) $$ [Ho Hw2]
  · isplitr; · iexact HR
    isplitr; · iexact Hl
    isplitl [Ho] <;> iassumption
  iintro ⟨Ho, Hz32, Hp2⟩
  iapply (step_waitDma X κ c 3 3 10 rfl (by decide)) $$ [Ho Hw3]
  · isplitr; · iexact HR
    isplitr; · iexact Hl
    isplitl [Ho] <;> iassumption
  iintro ⟨Ho, Hz33, Hp3⟩
  -- the waits for the device's own transfers
  iapply (step_waitDma X κ c 0 0 10 rfl (by decide)) $$ [Ho Hs0 Ha00]
  · isplitr; · iexact HR
    isplitr; · iexact Hl
    isplitl [Ho]; · iexact Ho
    isplitl [Hs0] <;> iassumption
  iintro ⟨Ho, Hz00, HsL0⟩
  iapply (step_waitDma X κ c 2 0 10 rfl (by decide)) $$ [Ho Hx0 Ha20]
  · isplitr; · iexact HR
    isplitr; · iexact Hl
    isplitl [Ho]; · iexact Ho
    isplitl [Hx0] <;> iassumption
  iintro ⟨Ho, Hz20, Ho0⟩
  iapply (step_waitDma X κ c 0 1 10 rfl (by decide)) $$ [Ho Hs1 Ha01]
  · isplitr; · iexact HR
    isplitr; · iexact Hl
    isplitl [Ho]; · iexact Ho
    isplitl [Hs1] <;> iassumption
  iintro ⟨Ho, Hz01, HsL1⟩
  iapply (step_waitDma X κ c 2 1 10 rfl (by decide)) $$ [Ho Hx1 Ha21]
  · isplitr; · iexact HR
    isplitr; · iexact Hl
    isplitl [Ho]; · iexact Ho
    isplitl [Hx1] <;> iassumption
  iintro ⟨Ho, Hz21, Ho1⟩
  iapply (step_waitDma X κ c 0 2 10 rfl (by decide)) $$ [Ho Hs2 Ha02]
  · isplitr; · iexact HR
    isplitr; · iexact Hl
    isplitl [Ho]; · iexact Ho
    isplitl [Hs2] <;> iassumption
  iintro ⟨Ho, Hz02, HsL2⟩
  iapply (step_waitDma X κ c 2 2 10 rfl (by decide)) $$ [Ho Hx2 Ha22]
  · isplitr; · iexact HR
    isplitr; · iexact Hl
    isplitl [Ho]; · iexact Ho
    isplitl [Hx2] <;> iassumption
  iintro ⟨Ho, Hz22, Ho2⟩
  iapply (step_waitDma X κ c 0 3 10 rfl (by decide)) $$ [Ho Hs3 Ha03]
  · isplitr; · iexact HR
    isplitr; · iexact Hl
    isplitl [Ho]; · iexact Ho
    isplitl [Hs3] <;> iassumption
  iintro ⟨Ho, Hz03, HsL3⟩
  iapply (step_waitDma X κ c 2 3 10 rfl (by decide)) $$ [Ho Hx3 Ha23]
  · isplitr; · iexact HR
    isplitr; · iexact Hl
    isplitl [Ho]; · iexact Ho
    isplitl [Hx3] <;> iassumption
  iintro ⟨Ho, Hz23, Ho3⟩
  -- everything together again
  unfold runs; rw [wp_ret]; imodintro
  iapply Hk
  unfold bodyPost
  isplitl [Ho]; · iexact Ho
  isplitl [HzB Hz00 Hz01 Hz02 Hz03 Hz10 Hz11 Hz12 Hz13 Hz20 Hz21 Hz22 Hz23 Hz30 Hz31 Hz32 Hz33]
  · iapply (Entails.of_eq (kinds_four (fun K : Kd => (semVal (cell c K) 0 : sProp 𝕄))).symm)
    isplitl [HzB]; · iexact HzB
    isplitl [Hz00 Hz01 Hz02 Hz03]
    · isplitl [Hz00]; · iexact Hz00
      isplitl [Hz01]; · iexact Hz01
      isplitl [Hz02] <;> iassumption
    isplitl [Hz10 Hz11 Hz12 Hz13]
    · isplitl [Hz10]; · iexact Hz10
      isplitl [Hz11]; · iexact Hz11
      isplitl [Hz12] <;> iassumption
    isplitl [Hz20 Hz21 Hz22 Hz23]
    · isplitl [Hz20]; · iexact Hz20
      isplitl [Hz21]; · iexact Hz21
      isplitl [Hz22] <;> iassumption
    isplitl [Hz30]; · iexact Hz30
    isplitl [Hz31]; · iexact Hz31
    isplitl [Hz32] <;> iassumption
  isplitl [Hx]; · iexact Hx
  isplitl [Ho0 Ho1 Ho2 Ho3 Hp0 Hp1 Hp2 Hp3]
  · iapply (o_join X c)
    isplitl [Ho0 Ho1 Ho2 Ho3]
    · iapply (Entails.of_eq (four _).symm)
      isplitl [Ho0]; · iapply (Entails.of_eq (pay_xsend X c 0)); iexact Ho0
      isplitl [Ho1]; · iapply (Entails.of_eq (pay_xsend X c 1)); iexact Ho1
      isplitl [Ho2]; · iapply (Entails.of_eq (pay_xsend X c 2)); iexact Ho2
      iapply (Entails.of_eq (pay_xsend X c 3)); iexact Ho3
    iapply (Entails.of_eq (four _).symm)
    isplitl [Hp0]; · iapply (Entails.of_eq (pay_xrecv X c 0)); iexact Hp0
    isplitl [Hp1]; · iapply (Entails.of_eq (pay_xrecv X c 1)); iexact Hp1
    isplitl [Hp2]; · iapply (Entails.of_eq (pay_xrecv X c 2)); iexact Hp2
    iapply (Entails.of_eq (pay_xrecv X c 3)); iexact Hp3
  isplitl [HsL0 HsL1 HsL2 HsL3 HsR0 HsR1 HsR2 HsR3]
  · iapply (s_split c (sb X c)).2
    isplitl [HsL0 HsL1 HsL2 HsL3]
    · iapply (Entails.of_eq (four _).symm)
      isplitl [HsL0]; · iapply (Entails.of_eq (pay_zsend X c 0)); iexact HsL0
      isplitl [HsL1]; · iapply (Entails.of_eq (pay_zsend X c 1)); iexact HsL1
      isplitl [HsL2]; · iapply (Entails.of_eq (pay_zsend X c 2)); iexact HsL2
      iapply (Entails.of_eq (pay_zsend X c 3)); iexact HsL3
    iapply (Entails.of_eq (four _).symm)
    isplitl [HsR0]; · iexact HsR0
    isplitl [HsR1]; · iexact HsR1
    isplitl [HsR2] <;> iassumption
  iapply (Entails.of_eq ((r_split c (sb X (zp c))).trans (four _)).symm)
  isplitl [Hr0]; · iexact Hr0
  isplitl [Hr1]; · iexact Hr1
  isplitl [Hr2] <;> iassumption

end Cert.KernelIdeal.Exchange

end
-- ==== Proof.KernelIdealLaunch.lean ====
/-
The launch: from any memory with the semaphores at zero, every fair execution of the eight devices terminates, each with
its result computed, its operand unchanged and every semaphore back at zero.
-/
module

public import proofs.«01_k».proof.Proof.KernelIdealBody
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at the launch: memory `m`, every semaphore at zero. -/
def s₀ : MemSt nD τ sig (Elt F) := ⟨m, fun _ => 0, ρ⟩

/-- The rows each device is given, as its operand's staging buffer holds them. -/
def rows (c : Dev nD) : Vec F S1024x512 .bf16 :=
  (win0_0.blk (0 : Fin 1)).view.read (Elt F) (m ((c : Thread nD τ).loc main_arg0))

/-! ## The kernel's one grid point -/

/-- What device `c` starts from, apart from its buffers. -/
def start (c : Dev nD) : sProp 𝕄 := iprop((∃ κ, records (rows m) κ) ∗ levAts L lv ∗ toks c ∗ creds c ∗ poss c)

/-- What the body takes beside its staged buffers, -/
def Φ₀ (c : Dev nD) : sProp 𝕄 :=
  iprop(start m c ∗ (∃ f : Vec F S512x512 .bf16, ((c : Thread nD τ).loc cc0_scratch0) ↦{fullShare} f)
    ∗ (∃ f : Vec F S512x512 .bf16, ((c : Thread nD τ).loc cc0_scratch1) ↦{fullShare} f))

/-- and what it gives back. -/
def Φ₁ (c : Dev nD) : sProp 𝕄 :=
  iprop((bigSep Finset.univ fun K : Kd => semVal (cell c K) 0)
    ∗ (((c : Thread nD τ).loc cc0_scratch0) ↦{fullShare} sb (rows m) c) ∗ (((c : Thread nD τ).loc cc0_scratch1) ↦{fullShare} sb (rows m) (zp c)))

/-- The pipeline's data: the operand's block before and after, the result after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => rows m c
    | ⟨1, _⟩ => outF (rows m) c
  Φ t := match t with
    | ⟨0, _⟩ => Φ₀ m c
    | ⟨_ + 1, _⟩ => Φ₁ m c
  q _ := fullShare
  owed t := match t with
    | ⟨0, _⟩ => debt c 0
    | ⟨_ + 1, _⟩ => debt c 10

/-- Owning all of a buffer at some contents. -/
theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer holding `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- Before the grid point, all of it at once, -/
def pointPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- and after it. -/
def pointPost (c : Dev nD) : sProp 𝕄 :=
  iprop(Φ₁ m c ∗ (dats m ρ 0 c).owesAt () t0_0.succ ∗ stg c cc0_stg0_0 (rows m c) ∗ stg c cc0_stg1_0 (outF (rows m) c))

set_option maxRecDepth 4000 in
/-- The pipeline's obligation at its one point, by the body. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show pointPre m ρ c ⊢ runs c (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => pointPost m ρ c)
  unfold pointPre Φ₀ start
  iintro ⟨⟨⟨⟨%κ, #HR⟩, #Hl, Ht, Hc, Ha⟩, Hs, Hr⟩, Ho, ⟨%d0, %g0, %hg0, Hx⟩, ⟨%d1, %g1, %hg1, Hout⟩⟩
  have hx : g0 = rows m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = debt c 0 from rfl]
  iapply (body_runs (rows m) κ c fun _ => pointPost m ρ c)
  unfold bodyPre ow
  isplitl [HO Ht Hc Ha Hx Hout Hs Hr]
  · isplitr; · iexact HR
    isplitr; · iexact Hl
    isplitl [HO]; · iexists W; iexact HO
    isplitl [Ht]; · iexact Ht
    isplitl [Hc]; · iexact Hc
    isplitl [Ha]; · iexact Ha
    isplitl [Hx]; · iexact Hx
    isplitl [Hout]; · iexists g1; iexact Hout
    isplitl [Hs] <;> iassumption
  unfold bodyPost pointPost Φ₁ ow Dat.owesAt Pipeline.owesWithin
  rw [show (dats m ρ 0 c).owed t0_0.succ = debt c 10 from rfl]
  iintro ⟨⟨%W', HO⟩, Hz, Hx, Hout, Hs, Hr⟩
  isplitl [Hz Hs Hr]
  · isplitl [Hz]; · iexact Hz
    isplitl [Hs] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The ghost state at the launch -/

/-- The kernel's own semaphores. -/
abbrev osem : Fin 4 × Fin 4 → SemLoc sig := fun p => .dma (xferS p.1 p.2)

/-- The kernel's semaphores are none of the pipeline's. -/
theorem ownSemFacts : Pipeline.OwnSemFacts cfg0.spec osem := by decide

/-- Every window is owned in full. -/
theorem share_eq (c : Dev nD) (w : Fin cfg0.W) : (dats m ρ 0 c).share w = fullShare := by unfold Dat.share; split <;> rfl

/-- The devices' semaphores, as distinct cells; -/
def cellE : Dev nD × Kd ↪ GSem nD τ sig := ⟨fun q => cell q.1 q.2, fun q q' h => Prod.ext (cell_inj h).1 (cell_inj h).2⟩
/-- all of them. -/
def cellSet : Finset (GSem nD τ sig) := Finset.univ.map cellE

/-- A duty: of the barrier the second, or of a semaphore the first. -/
abbrev tokOf (q : Dev nD × Option Kd) : GSem nD τ sig × ℕ × Bool :=
  (cell q.1 (q.2.elim none id), 0, q.2.isNone)

/-- Different duties have different tokens. -/
theorem tokOf_injective : Function.Injective tokOf := by
  rintro ⟨c, K⟩ ⟨c', K'⟩ h
  have h1 := cell_inj (congrArg (fun x : GSem nD τ sig × ℕ × Bool => x.1) h)
  have h2 : K.isNone = K'.isNone := congrArg (fun x : GSem nD τ sig × ℕ × Bool => x.2.2) h
  refine Prod.ext h1.1 ?_
  rcases K with _ | K <;> rcases K' with _ | K'
  · rfl
  · exact absurd h2 Bool.noConfusion
  · exact absurd h2 Bool.noConfusion
  · exact congrArg some h1.2
/-- All tokens. -/
def tokSet : Finset (GSem nD τ sig × ℕ × Bool) := Finset.univ.map ⟨tokOf, tokOf_injective⟩

/-- The ghost state to start from. -/
def u₀ : UU :=
  (initOf (Pipeline.cells cfgs cellOf_inj) (Pipeline.launchToks cfgs cellOf_inj), initOf cellSet tokSet)

/-- The tokens of the duties of device `c`'s own semaphores. -/
def ownToks (c : Dev nD) : sProp 𝕄 :=
  iprop(dutyTok ER (cell c none) 0 true ∗ bigSep Finset.univ fun K : Kd => dutyTok ER (cell c K) 0 false)

/-- What the launch deals device `c`. -/
def G (c : Dev nD) : sProp 𝕄 :=
  iprop((bigSep Finset.univ fun K : Kd => roundState ER (Rd (rows m)) (cell c K) 0)
    ∗ poss c ∗ (bigSep Finset.univ fun K : Kd => reached ER (cell c K) 0) ∗ ownToks c)

/-- What one step common to all the devices makes of it. -/
def G' (c : Dev nD) : sProp 𝕄 := iprop((∃ κ, records (rows m) κ) ∗ poss c ∗ toks c)

/-- The initial ghost state splits into each device's part. -/
theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun K : Kd => Φ (cell c K) := by
    unfold cellSet; rw [bigSep_map, bigSep_univ_prod]; rfl
  have hT : bigSep tokSet (fun x => (dutyTok ER x.1 x.2.1 x.2.2 : sProp 𝕄)) = bigSep Finset.univ fun c : Dev nD => ownToks c := by
    unfold tokSet; rw [bigSep_map, bigSep_univ_prod]
    exact bigSep_congr fun c _ => by unfold ownToks; rw [option_split]; rfl
  iintro HX
  imod (Rounds.fund ER (Rd (rows m)) cellSet tokSet) $$ HX with ⟨Hst, Hr, Hat, Htok⟩
  imodintro
  ihave Hst' := (Entails.of_eq (hX fun g => roundState ER (Rd (rows m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat']; · iexact Hat'
  isplitl [Hr'] <;> iassumption

/-- Beside the pipeline's and its own semaphores a device has the barrier's. -/
theorem unscopedSems0_eq (c : Dev nD) : (unscopedSems0 c : sProp 𝕄) = semVal (cell c none) 0 := by
  unfold unscopedSems0; rw [bigSep_eq_bigSepL_of_eq [SemLoc.reg barS] (by decide) (by decide)]; rfl

/-- The runtime's barrier and the kernel's own semaphores are all the semaphores of the exchange. -/
theorem sems0_eq (c : Dev nD) :
    (bigSep Finset.univ fun K : Kd => semVal (cell c K) 0 : sProp 𝕄)
      = iprop(unscopedSems0 c ∗ Pipeline.ownSems0 (Ix := Unit) (Name := ℕ) (U := UU) (Lvl := ℕ) (Val := Elt F) (τ := τ) osem c) := by
  rw [unscopedSems0_eq, option_split]; rfl

/-- Each device's semaphores at zero become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun K : Kd => iprop(∃ κ : ℕ, cellInv ER (Rd (rows m)) κ (cell c K)))
          ∗ poss c ∗ (bigSep Finset.univ fun K : Kd => reached ER (cell c K) 0) ∗ ownToks c) := by
  unfold G
  iintro ⟨Hos, Hus, Hst, Hat, Hr, Htok⟩
  ihave Hv := (Entails.of_eq (sems0_eq (F := F) c).symm) $$ [Hos Hus]
  · isplitl [Hus] <;> iassumption
  imod (show iprop((bigSep Finset.univ fun K : Kd => semVal (cell c K) 0) ∗ bigSep Finset.univ fun K : Kd => roundState ER (Rd (rows m)) (cell c K) 0)
      ⊢ (|={Set.univ}=> bigSep Finset.univ fun K : Kd => iprop(∃ κ : ℕ, cellInv ER (Rd (rows m)) κ (cell c K)) : sProp 𝕄) from by
        rw [← bigSep_sep']
        exact (bigSep_mono fun K _ => (Rounds.body_intro ER (Rd (rows m)) (cell c K)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- The tokens go to who pays: those of the barriers and the z receives across z, those of the x receives across x. -/
theorem toks_around : (bigSep Finset.univ fun c : Dev nD => (ownToks c : sProp 𝕄)) ⊢ bigSep Finset.univ fun c : Dev nD => toks c := by
  unfold ownToks toks
  simp only [kinds_split]
  simp only [bigSep_sep', arr]
  rw [bigSep_univ_equiv xSwap (fun c : Dev nD => (dutyTok ER (cell c none) 0 true : sProp 𝕄)),
    bigSep_univ_equiv zSwap (fun c : Dev nD => (dutyTok ER (cell c none) 0 false : sProp 𝕄)),
    bigSep_univ_equiv zSwap (fun c : Dev nD => (bigSep Finset.univ fun i : Fin 4 => dutyTok ER (cell c (some (1, i))) 0 false : sProp 𝕄)),
    bigSep_univ_equiv xSwap (fun c : Dev nD => (bigSep Finset.univ fun i : Fin 4 => dutyTok ER (cell c (some (3, i))) 0 false : sProp 𝕄))]
  iintro ⟨Hbt, Hbf, H0, H1, H2, H3⟩
  isplitl [Hbf]; · iexact Hbf
  isplitl [Hbt]; · iexact Hbt
  isplitl [H0]; · iexact H0
  isplitl [H1]; · iexact H1
  isplitl [H2]; · iexact H2
  iexact H3

/-- What a device is handed, from all records and its own positions and tokens. -/
theorem ghost_intro (κ : Dev nD × Kd → ℕ) (c : Dev nD) : iprop(records (rows m) κ ∗ (poss c ∗ toks c)) ⊢ G' m c := by
  unfold G'
  iintro ⟨#HR, Ha, Ht⟩
  isplitr; · iexists κ; iexact HR
  isplitl [Ha] <;> iassumption

/-- The invariants of all devices, gathered and handed to each. -/
theorem regroup :
    (bigSep Finset.univ fun c : Dev nD => iprop((bigSep Finset.univ fun K : Kd => iprop(∃ κ : ℕ, cellInv ER (Rd (rows m)) κ (cell c K)))
          ∗ poss c ∗ (bigSep Finset.univ fun K : Kd => reached ER (cell c K) 0) ∗ ownToks c) : sProp 𝕄)
      ⊢ bigSep Finset.univ (G' m) := by
  rw [bigSep_sep', bigSep_sep', bigSep_sep',
    ← bigSep_univ_prod (fun q : Dev nD × Kd => iprop(∃ κ : ℕ, cellInv ER (Rd (rows m)) κ (cell q.1 q.2))),
    ← bigSep_univ_prod (fun q : Dev nD × Kd => (reached ER (cell q.1 q.2) 0 : sProp 𝕄))]
  iintro ⟨HI, Hat, #HR, Htok⟩
  ihave HK := (BI.bigSep_exists_pi Finset.univ (fun (q : Dev nD × Kd) (κ : ℕ) => (cellInv ER (Rd (rows m)) κ (cell q.1 q.2) : sProp 𝕄))) $$ HI
  icases HK with ⟨%κ, #HI⟩
  ihave Htk := (toks_around (F := F)) $$ Htok
  iapply (BI.bigSep_with_persistent (R := records (rows m) κ) (Φ := fun c : Dev nD => iprop(poss c ∗ toks c)) fun c _ => ghost_intro m κ c)
  isplitr
  · unfold records; isplitl; · iexact HI
    iexact HR
  iapply (Entails.of_eq (bigSep_sep' Finset.univ (fun c : Dev nD => (poss c : sProp 𝕄)) toks).symm)
  isplitl [Hat] <;> iassumption

/-- The one step common to all the devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

/-- The credit of one semaphore at the launch. -/
theorem launch_cell (c : Dev nD) (K : Kd) :
    tallyOn (cell c K) (launchCredit (Pipeline.owing fun d => debt d 0) 0 (cell c K))
      = (tallyAt (cell c K) () (credit K plan) : CellTallies nD τ sig Unit) := by
  unfold tallyAt; refine congrArg _ (Finsupp.ext fun u => ?_); cases u
  rw [Pipeline.launchCredit_owing, Finsupp.single_eq_same]
  exact owL_sum c K plan

/-- A device's credits at the launch are those its waits need. -/
theorem creds_intro (c : Dev nD) : (Pipeline.launchCred (fun d => debt d 0) c : sProp 𝕄) ⊢ creds c := by
  unfold Pipeline.launchCred
  refine (bigSep_subset (Finset.subset_univ (Finset.univ.image csem))).trans ?_
  rw [bigSep_image_of_injOn (fun K _ K' _ h => csem_inj h)]
  refine (Entails.of_eq ((bigSep_congr fun K _ => show _ = cred (tallyAt (cell c K) () (credit K plan)) from congrArg _ (launch_cell c K)).trans
    (kinds_split _))).trans ?_
  unfold creds arr
  simp only [credit_bar, credit_zrecv, credit_xrecv]
  iintro ⟨HB, -, H1, -, H3⟩
  isplitl [HB]; · iexact HB
  isplitl [H1] <;> iassumption

/-! ## The run -/

/-- So a device has what it starts from. -/
theorem start_intro (c : Dev nD) :
    iprop(Pipeline.unscopedRestP Pipeline.Prefetch.none cfg0.spec c (fun b => m ((c : Thread nD τ).loc b)) ∗ levAts L lv
        ∗ Pipeline.launchCred (fun d => debt d 0) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  icases HG with ⟨HR, Ha, Ht⟩
  isplitl
  · isplitl [HR]; · iexact HR
    isplitl [Hlev]; · iexact Hlev
    isplitl [Ht]; · iexact Ht
    isplitl [Hc] <;> iassumption
  · iempintro

/-- The grid point's start, from the region's; -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hb⟩
  isplitl [Hs] <;> iassumption

/-- the region's end, from the grid point's. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  rw [sems0_eq]
  iintro ⟨⟨Hu, Ho⟩, Hs, Hr⟩
  isplitl [Hu]; · iexact Hu
  isplitl [Ho]; · iexact Ho
  isplitl [Hs]
  · iexists _; iexact Hs
  iexists _; iexact Hr

/-- The pipeline's own waits lie below every debt. -/
theorem waits (c : Dev nD) : (levAts L lv : sProp 𝕄) ⊢ Pipeline.cellsWaits cfgs (dats m ρ) () 0 c :=
  Pipeline.cellsWaits_intro cfgs (dats m ρ) () 0 c fun w s t => by
    have h (j : ℕ) : (levAts L lv : sProp 𝕄) ⊢ MayWait (c : Thread nD τ) (.dma ((cfg0.win w).sem s)) () (debt c j) :=
      mayWait c _ _ fun p hp =>
        (by fin_cases w <;> fin_cases s <;> decide : ∀ p ∈ plan, lvK (kindOf (.dma ((cfg0.win w).sem s))) < lvK (some p.2.1)) p (List.mem_of_mem_drop hp)
    rcases t with ⟨_ | _, ht⟩
    · exact h 0
    · exact h 10

/-- The contents window `w`'s array ends with. -/
def finalA (c : Dev nD) (w : Fin cfg0.W) : Buf (Elt F) ((cfg0.win w).arr.view.loc (c : Thread nD τ)) := (dats m ρ 0 c).arrAt w cfg0.N

set_option maxRecDepth 8000 in
/-- Every fair execution from any memory with zero semaphores terminates with the two arrays at their final contents and
    every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand ends as it began. -/
theorem finalA_x (c : Dev nD) : finalA m ρ c (0 : Fin 2) = m ((c : Thread nD τ).loc main_arg0) :=
  (dats (F := F) m ρ 0 c).arrAt_in (0 : Fin 2) rfl _

/-- The staging buffer holds the whole operand. -/
theorem rows_eq (c : Dev nD) : rows m c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- The result ends holding both halves of the sum. -/
theorem finalA_o (c : Dev nD) : finalA m ρ c (1 : Fin 2) = outF (rows m) c := by
  have h : (win0_1.blk (0 : Fin 1)).view.read (Elt F) (finalA m ρ c (1 : Fin 2)) = outF (rows m) c := by
    unfold finalA
    rw [show cfg0.N = ((0 : Fin 1) : Fin cfg0.N).val + 1 from rfl, (dats m ρ 0 c).arrAt_succ (1 : Fin 2) (0 : Fin 1), if_pos (flush0_1 (0 : Fin 1))]
    exact View.read_write_univ _ _
  exact (Memref.read_access_unit_zero (Elt F) main_v1
    (show (fun a => (win0_1.index (0 : Fin 1)) a * main_v1.ty.shape.size a) = fun _ => 0 from funext fun a => by fin_cases a <;> decide)
    (fun a => by fin_cases a <;> decide) _).symm.trans h

end Cert.KernelIdeal.Exchange

end
-- ==== Proof.Sum.lean ====
/-
What the exchange computes, over the extended reals: the sum of the operand's two halves, on every device alike.
-/
module

public import proofs.«01_k».proof.Proof.KernelIdealLaunch
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.PureOps.Ideal.Laws

@[expose] public section

noncomputable section

namespace Cert.Sum

open Idealize.ShloMosaic Cert.KernelIdeal.Exchange
open Idealize.ShloMosaic.ValueIdx

/-- The shape of a device's block and of the result, -/
abbrev S : Shape := ⟨2, ![1024, 512]⟩
/-- and of the whole operand. -/
abbrev T : Shape := ⟨2, ![2048, 512]⟩

/-- Row `i` of block `b` of the whole operand, at column `j`. -/
def at2 (b : Fin 2) (i : S.Idx) : T.Idx :=
  ValueIdx.ix2 (n0 := 2048) (n1 := 512) ⟨1024 * b.val + (i 0).val, by have h : (i 0).val < 1024 := (i 0).isLt; have := b.isLt; omega⟩ (i 1)

/-- The mathematics: the two blocks' sum. -/
def total (w : T.Idx → EReal) : S.Idx → EReal := fun i => w (at2 0 i) + w (at2 1 i)

/-- The reference computes it. -/
theorem ref_eq (w : Vec Ideal T .bf16)
    (h₁ : (⟨2, ![2048, 512]⟩ : Shape).ShapeCasts ⟨3, ![2, 1024, 512]⟩) (h₂ : FTy.bits .bf16 < FTy.bits .f32)
    (h₃ : (⟨3, ![2, 1024, 512]⟩ : Shape).ReducesTo [0] S) (h₄ : 0 < (⟨0, ![]⟩ : Shape).numel) :
    (truncf .bf16 (Host.reduceAdd (extf .f32 (shapeCast (⟨3, ![2, 1024, 512]⟩ : Shape) w h₁) h₂) (constant (F := Ideal) ⟨0, ![]⟩ .f32 0x00000000#32) h₃ h₄) h₂
      : Vec Ideal S .bf16) = total w := by
  funext i
  show Host.reduceAdd (F := Ideal) (φ := .f32) (extf .f32 (shapeCast (⟨3, ![2, 1024, 512]⟩ : Shape) w h₁) h₂) (constant (F := Ideal) ⟨0, ![]⟩ .f32 0x00000000#32) h₃ h₄ i = _
  rw [hostReduceAdd_apply, Ideal.hostReduceAdd_r3_a0]
  show Ideal.ofBits .f32 0x00000000#32 + _ = _
  rw [Ideal.ofBits_zero_f32, zero_add, Fin.sum_univ_two]
  have e (b : Fin 2) (z) (hz : z = ValueIdx.ix3 (n0 := 2) (n1 := 1024) (n2 := 512) b (i 0) (i 1)) :
      shapeCast (⟨3, ![2, 1024, 512]⟩ : Shape) w h₁ z = w (at2 b i) := by
    subst hz
    refine shapeCast_apply w h₁ _ _ ?_
    rw [Shape.rowMajor_val_three, Shape.rowMajor_val_two]
    show (1024 * b.val + (i 0).val) * 512 + (i 1).val = _
    show _ = (b.val * 1024 + (i 0).val) * 512 + (i 1).val
    ring
  exact congrArg₂ (· + ·) (e 0 _ rfl) (e 1 _ rfl)

/-- A device's block of the operand is the one its third mesh coordinate names. -/
theorem block_eq (w : T.Idx → EReal) (c : Fin 8) (i : S.Idx) :
    (Layout.blockN S T (Layout.meshBlock [2, 2, 2] ![[2], []] c) w) i = w (at2 ⟨c.val % 2, Nat.mod_lt _ (by decide)⟩ i) := by
  refine congrArg w (funext fun a => Fin.ext ?_)
  rw [Layout.TilesN.idx_val]
  have h : ∀ c : Fin 8, ((Layout.meshBlock [2, 2, 2] ![[2], []] c) (0 : Fin 2)).val = c.val % 2
      ∧ ((Layout.meshBlock [2, 2, 2] ![[2], []] c) (1 : Fin 2)).val = 0 := by decide
  fin_cases a
  · show ((Layout.meshBlock [2, 2, 2] ![[2], []] c) (0 : Fin 2)).val * 1024 + (i 0).val = 1024 * (c.val % 2) + (i 0).val
    rw [(h c).1, Nat.mul_comm]
  · show ((Layout.meshBlock [2, 2, 2] ![[2], []] c) (1 : Fin 2)).val * 512 + (i 1).val = (i 1).val
    rw [(h c).2, Nat.zero_mul, Nat.zero_add]

/-- z partners hold different blocks. -/
theorem zp_mod : ∀ c : Fin 8, (zp c).val % 2 = 1 - c.val % 2 := by decide

/-- A device and its z partner hold both blocks: their sum is the whole. -/
theorem sumX_eq (w : T.Idx → EReal) (X : Fin 8 → Vec Ideal S .bf16)
    (hX : ∀ c, X c = Layout.blockN S T (Layout.meshBlock [2, 2, 2] ![[2], []] c) w) (c : Fin 8) : sumX X c = total w := by
  funext i
  show X c i + X (zp c) i = _
  rw [hX, hX, block_eq, block_eq]
  rcases Nat.mod_two_eq_zero_or_one c.val with h | h
  · rw [show (⟨c.val % 2, Nat.mod_lt _ (by decide)⟩ : Fin 2) = 0 from Fin.ext h,
      show (⟨(zp c).val % 2, Nat.mod_lt _ (by decide)⟩ : Fin 2) = 1 from Fin.ext ((zp_mod c).trans (by rw [h]; rfl))]
    rfl
  · rw [show (⟨c.val % 2, Nat.mod_lt _ (by decide)⟩ : Fin 2) = 1 from Fin.ext h,
      show (⟨(zp c).val % 2, Nat.mod_lt _ (by decide)⟩ : Fin 2) = 0 from Fin.ext ((zp_mod c).trans (by rw [h]; rfl))]
    exact add_comm _ _

/-- So every device's result is the whole sum. -/
theorem outF_eq (w : T.Idx → EReal) (X : Fin 8 → Vec Ideal S .bf16)
    (hX : ∀ c, X c = Layout.blockN S T (Layout.meshBlock [2, 2, 2] ![[2], []] c) w) (c : Fin 8) : outF X c = total w := by
  funext i
  unfold outF
  rw [sumX_eq w X hX, sumX_eq w X hX, ite_self]

end Cert.Sum

end
-- ==== Proof.lean ====
/-
The five claims: each program runs, leaves its argument unchanged and all semaphores at zero; the idealised kernel is the
kernel's own text; and over the extended reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Sum
public import Idealize.ShloMosaic.Adequacy
public import Idealize.ShloMosaic.Init

@[expose] public section

noncomputable section

namespace Cert.Proof

open Idealize.ShloMosaic Idealize.SL.Sem

/-- The kernel terminates with its argument unchanged and every semaphore at zero. -/
theorem kernel_quiescent : Cert.quiescent_Kernel (hKernel := Cert.Kernel.Gen.facts) := fun m g _ =>
  (θ_run _ _ _).mono (fun _ h => ⟨fun c => (h.1 c (0 : Fin 2)).trans (Cert.Kernel.Exchange.finalA_x m g c), h.2⟩)
    (Cert.Kernel.Exchange.run_main (F := Bits) m g)

/-- So does the idealised kernel. -/
theorem kernelIdeal_quiescent : Cert.quiescent_KernelIdeal (hKernelIdeal := Cert.KernelIdeal.Gen.facts) := fun m g _ =>
  (θ_run _ _ _).mono (fun _ h => ⟨fun c => (h.1 c (0 : Fin 2)).trans (Cert.KernelIdeal.Exchange.finalA_x m g c), h.2⟩)
    (Cert.KernelIdeal.Exchange.run_main (F := Ideal) m g)

/-- So does the reference. -/
theorem reference_quiescent : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The kernel leaves on every device what the reference computes. -/
theorem kernel_algebraic : Cert.algebraic_KernelIdeal_ReferenceIdeal
    (hKernelIdeal := Cert.KernelIdeal.Gen.facts) (hReferenceIdeal := Cert.ReferenceIdeal.Gen.facts) := fun m g m' g' _ hm => by
  refine ⟨Cert.Sum.total (m' (((0 : Dev Cert.ReferenceIdeal.nD).tc : Thread Cert.ReferenceIdeal.nD Cert.ReferenceIdeal.τ).loc Cert.ReferenceIdeal.main_arg0)), ?_, ?_⟩
  · refine (θ_run _ _ _).mono (fun _ h c => ⟨(h.1 c (1 : Fin 2)).trans ((Cert.KernelIdeal.Exchange.finalA_o m g c).trans ?_),
      (h.1 c (0 : Fin 2)).trans (Cert.KernelIdeal.Exchange.finalA_x m g c)⟩) (Cert.KernelIdeal.Exchange.run_main (F := Ideal) m g)
    exact Cert.Sum.outF_eq _ _ (fun d => (Cert.KernelIdeal.Exchange.rows_eq m d).trans (hm d)) c
  · exact (θ_run _ _ _).mono (fun _ h => ⟨(h 0).1.trans (Cert.Sum.ref_eq _ _ _ _ _), (h 0).2⟩) (Cert.ReferenceIdeal.Value.run (F := Ideal) m' g')

/-- All the claims together. -/
theorem claim : Cert.Claim := ⟨Cert.Kernel.Gen.facts, Cert.KernelIdeal.Gen.facts, Cert.ReferenceIdeal.Gen.facts,
  kernel_quiescent, kernelIdeal_quiescent, reference_quiescent, trivial, kernel_algebraic⟩

end Cert.Proof

end
